-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top16_distinct_KernelIdeal [hPre_top16_distinct_KernelIdeal : Cert.Pre_top16_distinct_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top16_distinct_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top16_distinct_ReferenceIdeal [hPre_top16_distinct_ReferenceIdeal : Cert.Pre_top16_distinct_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top16_distinct_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_top16_distinct_KernelIdeal [hKernelIdeal : Cert.KernelIdeal.Facts] [hPre_top16_distinct_KernelIdeal : Cert.Pre_top16_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top16_distinct_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_top16_distinct_ReferenceIdeal [hReferenceIdeal : Cert.ReferenceIdeal.Facts] [hPre_top16_distinct_ReferenceIdeal : Cert.Pre_top16_distinct_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top16_distinct_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_top16_distinct_KernelIdeal [hKernelIdeal : Cert.KernelIdeal.Facts] [hReferenceIdeal : Cert.ReferenceIdeal.Facts] [hPre_top16_distinct_KernelIdeal : Cert.Pre_top16_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top16_distinct_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_top16_distinct_KernelIdeal : Cert.Pre_top16_distinct_KernelIdeal.Facts) (hPre_top16_distinct_ReferenceIdeal : Cert.Pre_top16_distinct_ReferenceIdeal.Facts),
    quiescent_Kernel (hKernel := hKernel)
    ∧ quiescent_KernelIdeal (hKernelIdeal := hKernelIdeal)
    ∧ quiescent_KernelIdeal_pre_top16_distinct_KernelIdeal (hKernelIdeal := hKernelIdeal) (hPre_top16_distinct_KernelIdeal := hPre_top16_distinct_KernelIdeal)
    ∧ quiescent_ReferenceIdeal (hReferenceIdeal := hReferenceIdeal)
    ∧ quiescent_ReferenceIdeal_pre_top16_distinct_ReferenceIdeal (hReferenceIdeal := hReferenceIdeal) (hPre_top16_distinct_ReferenceIdeal := hPre_top16_distinct_ReferenceIdeal)
    ∧ preserves_Kernel_KernelIdeal
    ∧ algebraic_KernelIdeal_ReferenceIdeal_pre_top16_distinct_KernelIdeal (hKernelIdeal := hKernelIdeal) (hReferenceIdeal := hReferenceIdeal) (hPre_top16_distinct_KernelIdeal := hPre_top16_distinct_KernelIdeal)
-- ==== Pre_top16_distinct_KernelIdeal.lean ====
abbrev S512x4096 : Shape := ⟨2, ![512, 4096]⟩
abbrev S512x15 : Shape := ⟨2, ![512, 15]⟩
abbrev S_ : Shape := ⟨0, ![]⟩

class Facts : Prop where
  slices_S512x4096_S512x15_0_4080 : S512x4096.Slices ![0, 4080] S512x15
  slices_S512x4096_S512x15_0_4081 : S512x4096.Slices ![0, 4081] S512x15
  bcast_S_S512x15 : S_.BroadcastsInDim S512x15 (![] : Fin 0 → Fin S512x15.rank)
  reducesTo_S512x15_S_d0_1 : S512x15.ReducesTo [0, 1] S_
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x4096 .f32) : FVec F S512x4096 .f32 :=
  let v0 : FVec F S512x4096 .f32 := (fun x => Host.sort S512x4096 1 comparator_f32_d1 x) arg0
  v0

def fn {F : FTy → Type} [FloatOps F] (main_arg0 : FVec F S512x4096 .f32) : IVec S_ 1 :=
  let main_v0 : FVec F S512x4096 .f32 := fn_sort (F := F) main_arg0
  let main_v1 : FVec F S512x15 .f32 := (extractStridedSlice S512x15 ![0, 4080] · slices_S512x4096_S512x15_0_4080) main_v0
  let main_v2 : FVec F S512x15 .f32 := (extractStridedSlice S512x15 ![0, 4081] · slices_S512x4096_S512x15_0_4081) main_v0
  let main_v3 : IVec S512x15 1 := cmpf .olt main_v1 main_v2
  let main_cst : FVec F S_ .f32 := constant S_ .f32 0xFF800000#32
  let main_v4 : FVec F S512x15 .f32 := broadcastInDim S512x15 ![] bcast_S_S512x15 main_cst
  let main_v5 : IVec S512x15 1 := cmpf .oeq main_v1 main_v4
  let main_v6 : IVec S512x15 1 := ori main_v3 main_v5
  let main_c : IVec S_ 1 := constantI S_ 1 1#1
  let main_v7 : IVec S_ 1 := (fun x v => Host.reduce IntOp.andi x v reducesTo_S512x15_S_d0_1 h_S_) main_v6 main_c
  main_v7
-- ==== Pre_top16_distinct_ReferenceIdeal.lean ====
abbrev S512x8192 : Shape := ⟨2, ![512, 8192]⟩
abbrev S512x15 : Shape := ⟨2, ![512, 15]⟩
abbrev S_ : Shape := ⟨0, ![]⟩

class Facts : Prop where
  slices_S512x8192_S512x15_0_8176 : S512x8192.Slices ![0, 8176] S512x15
  slices_S512x8192_S512x15_0_8177 : S512x8192.Slices ![0, 8177] S512x15
  bcast_S_S512x15 : S_.BroadcastsInDim S512x15 (![] : Fin 0 → Fin S512x15.rank)
  reducesTo_S512x15_S_d0_1 : S512x15.ReducesTo [0, 1] S_
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x8192 .f32) : FVec F S512x8192 .f32 :=
  let v0 : FVec F S512x8192 .f32 := (fun x => Host.sort S512x8192 1 comparator_f32_d1 x) arg0
  v0

def fn {F : FTy → Type} [FloatOps F] (main_arg0 : FVec F S512x8192 .f32) : IVec S_ 1 :=
  let main_v0 : FVec F S512x8192 .f32 := fn_sort (F := F) main_arg0
  let main_v1 : FVec F S512x15 .f32 := (extractStridedSlice S512x15 ![0, 8176] · slices_S512x8192_S512x15_0_8176) main_v0
  let main_v2 : FVec F S512x15 .f32 := (extractStridedSlice S512x15 ![0, 8177] · slices_S512x8192_S512x15_0_8177) main_v0
  let main_v3 : IVec S512x15 1 := cmpf .olt main_v1 main_v2
  let main_cst : FVec F S_ .f32 := constant S_ .f32 0xFF800000#32
  let main_v4 : FVec F S512x15 .f32 := broadcastInDim S512x15 ![] bcast_S_S512x15 main_cst
  let main_v5 : IVec S512x15 1 := cmpf .oeq main_v1 main_v4
  let main_v6 : IVec S512x15 1 := ori main_v3 main_v5
  let main_c : IVec S_ 1 := constantI S_ 1 1#1
  let main_v7 : IVec S_ 1 := (fun x v => Host.reduce IntOp.andi x v reducesTo_S512x15_S_d0_1 h_S_) main_v6 main_c
  main_v7
-- ==== Kernel.lean ====
abbrev S512x4096 : Shape := ⟨2, ![512, 4096]⟩
abbrev S512x16 : Shape := ⟨2, ![512, 16]⟩
abbrev S2x512x16 : Shape := ⟨3, ![2, 512, 16]⟩
abbrev S_ : Shape := ⟨0, ![]⟩
abbrev S512 : Shape := ⟨1, ![512]⟩
abbrev S512x1 : Shape := ⟨2, ![512, 1]⟩
abbrev S1x512x16 : Shape := ⟨3, ![1, 512, 16]⟩
abbrev S512x32 : Shape := ⟨2, ![512, 32]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S2x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v190 : BitVec 32 := Scalar.muli v2 c8_i32_43
  let v191 : BitVec 32 := Scalar.addi c0_i32_44 v190
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_45 : BitVec 32 := 4#32
  let v192 : BitVec 32 := Scalar.muli v9 c4_i32_45
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v194 : BitVec 32 := Scalar.muli v8 c1_i32_46
  let v195 : BitVec 32 := Scalar.addi v193 v194
  v195.toNat
def k0_dev2 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v196 : BitVec 32 := Scalar.muli v2 c8_i32_50
  let v197 : BitVec 32 := Scalar.addi c0_i32_51 v196
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_52 : BitVec 32 := 4#32
  let v198 : BitVec 32 := Scalar.muli v9 c4_i32_52
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v200 : BitVec 32 := Scalar.muli v8 c1_i32_53
  let v201 : BitVec 32 := Scalar.addi v199 v200
  v201.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .i32⟩
  | .hbm, ⟨3, _⟩ => ⟨S512x8192, .f32⟩
  | .hbm, ⟨4, _⟩ => ⟨S512x8192, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.KernelIdealExchange.lean ====
/-
The exchange: what one device's run of the kernel does, and why the two devices of a pair never race.

Device `c` keeps in slot 0 of its scratch buffer the sixteen candidates of its own columns, tells its peer (the device on the
other `y` coordinate) through the barrier semaphore that slot 1 of its scratch may be written, waits for the peer to say the same, copies slot 0
into the peer's slot 1, waits until its copy has left and the peer's has landed, and merges the two slots.

Each of the three semaphores of a device has one round with one payment:
  * the barrier cell of `c` is paid one unit by the peer, who hands over slot 1 of the PEER's scratch and the mark that its
    receive cell is at its first round;
  * the send cell of `c` is paid the copy's credit when `c`'s copy has been read, and gives `c`'s slot 0 back;
  * the receive cell of `c` is paid the same credit when the peer's copy has landed: slot 1 of `c` with the peer's candidates.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body computes -/

/-- The sixteen candidates of every row of one device's columns, as the body stores them in slot 0. -/
def best (x : Vec F S512x4096 .f32) : FVec F S1x512x16 .f32 :=
  let cols := k0_pay2 x
  let lane : IVec S512x16 32 := iota .tc S512x16 32 [1] iota_S512x16_d1_w32
  let m2 := k0_pay6 x
  let acc6 := k0_pay13 cols lane (k0_pay5 x) m2 k0_pay7 (k0_pay8 x)
  let below6 := k0_pay14 cols m2
  let acc10 := k0_pay19 cols lane acc6 below6
  let kept10 := k0_pay20 cols below6
  k0_pay28 lane (k0_pay25 cols lane acc10 kept10) (k0_pay26 cols kept10) k0_pay27

/-- The sixteen largest of the two slots' candidates together, as the body stores them in its result. -/
def merged (a b : Vec F S1x512x16 .f32) : FVec F S512x16 .f32 :=
  let col : IVec S512x32 32 := iota .tc S512x32 32 [1] iota_S512x32_d1_w32
  let lane : IVec S512x16 32 := iota .tc S512x16 32 [1] iota_S512x16_d1_w32
  let acc1 := k0_pay31 a b
  let w1 := k0_pay32 a b
  let m1 := k0_pay33 a b
  let w3 := k0_pay37 col w1 m1
  let acc4 := k0_pay39 col lane acc1 w1 m1
  let f4 := k0_pay40 col w1 m1
  let w6 := k0_pay45 col w3 f4
  let acc7 := k0_pay47 col lane w3 acc4 f4
  let e7 := k0_pay48 col w3 f4
  let acc9 := k0_pay53 col lane w6 acc7 e7 32#32
  let w9 := k0_pay54 col w6 e7 32#32
  let m9 := k0_pay55 col w6 e7 32#32
  let acc12 := k0_pay61 col lane acc9 w9 m9 (k0_pay56 lane)
  let w12 := k0_pay62 col w9 m9
  k0_pay1 col lane (k0_pay66 col w12) (k0_pay68 col lane acc12 w12) (k0_pay69 col w12)

/-! ## Resource algebra: the pipeline's rounds beside the exchange's -/

abbrev XB : Type := URounds (GSem nD τ sig) Unit
abbrev XU : Type := UR sig nD τ × XB

local notation "𝕄" => MT nD τ sig Unit (Elt F) ℕ XU ℕ

abbrev EP : Emb (UR sig nD τ) (MT nD τ sig Unit (Elt F) ℕ XU ℕ) := embL
abbrev EX : Emb XB (MT nD τ sig Unit (Elt F) ℕ XU ℕ) := embR

variable (m : (ℓ : Loc nD τ sig) → Buf (Elt F) ℓ) (ρ : Dev nD → PrngReg)

/-- The memory at the start: any contents, all counters zero. -/
def start₀ : MemSt nD τ sig (Elt F) := ⟨m, fun _ => 0, ρ⟩

/-! ## Pairs of devices -/

set_option backward.proofsInPublic true in
/-- The device with the same `x` and `z` coordinates on the other side of the `y` axis. -/
def peer (c : Dev nD) : Dev nD :=
  ⟨(8 * (c.val / 8) + (c.val % 4) + 4) - 4 * ((c.val / 4) % 2), by revert c; decide⟩

/-- The peer's peer is the device itself. -/
theorem peer_peer (c : Dev nD) : peer (peer c) = c := by revert c; decide
/-- The barrier signal is addressed to the peer. -/
theorem signal_to (c : Dev nD) : (⟨k0_dev1 c, k0_dev1_lt c⟩ : Dev nD) = peer c := Fin.ext (k0_dev1_eq c)
/-- So is the copy. -/
theorem copy_to (c : Dev nD) : (⟨k0_dev2 c, k0_dev2_lt c⟩ : Dev nD) = peer c := Fin.ext (k0_dev2_eq c)

/-- Pairing as a permutation of the devices. -/
def pairing : Dev nD ≃ Dev nD := ⟨peer, peer, peer_peer, peer_peer⟩

/-! ## Buffers and cells -/

abbrev inM : Memref sig .tc .vmem S512x4096 .f32 := Memref.whole cc0_stg0_0
abbrev outM : Memref sig .tc .vmem S512x16 .f32 := Memref.whole cc0_stg1_0
abbrev scrM : Memref sig .tc .vmem S2x512x16 .f32 := Memref.whole cc0_scratch0

/-- The rectangles of the two slots in the scratch buffer. -/
abbrev at0 : Rect S2x512x16 := Rect.unit (s := S2x512x16) ![0, 0, 0] S1x512x16.size inb_S2x512x16_S1x512x16_0_0_0
abbrev at1 : Rect S2x512x16 := Rect.unit (s := S2x512x16) ![1, 0, 0] S1x512x16.size inb_S2x512x16_S1x512x16_1_0_0

/-- The slots as the copy names them. -/
abbrev slot0 : Memref sig .tc .vmem S512x16 .f32 := (scrM.slice at0 (fun _ => rfl)).squeeze S512x16 squeezes_S1x512x16_S512x16
abbrev slot1 : Memref sig .tc .vmem S512x16 .f32 := (scrM.slice at1 (fun _ => rfl)).squeeze S512x16 squeezes_S1x512x16_S512x16

abbrev barS : Sem sig := (SemArray.scalar (sig.barrier 0 rfl) : Sems sig S_).sem
abbrev sndS : DmaSems sig S_ := cc0_scratch1
abbrev rcvS : DmaSems sig S_ := cc0_scratch2

abbrev barC (c : Dev nD) : GSem nD τ sig := ((c : Thread nD τ), .reg barS)
abbrev sndC (c : Dev nD) : GSem nD τ sig := ((c : Thread nD τ), .dma sndS.sem)
abbrev rcvC (c : Dev nD) : GSem nD τ sig := ((c : Thread nD τ), .dma rcvS.sem)

/-- The kernel's own scoped semaphores, and all three of the exchange's. -/
abbrev ownSem : Fin 2 → SemLoc sig := fun | 0 => .dma sndS.sem | 1 => .dma rcvS.sem
abbrev allSem : Fin 3 → SemLoc sig := fun | 0 => .reg barS | 1 => .dma sndS.sem | 2 => .dma rcvS.sem
abbrev cellAt (ck : Dev nD × Fin 3) : GSem nD τ sig := ((ck.1 : Thread nD τ), allSem ck.2)

/-- The credit of one slot's copy. -/
abbrev credit : ℕ := (slot1 : Memref sig .tc .vmem S512x16 .f32).view.dmaCredit
theorem credit_pos : 0 < credit := View.dmaCredit_pos _ (by decide)

/-! ## Contents -/

/-- Device `c`'s columns as staged for the body. -/
def colsOf (c : Dev nD) : (cc0_stg0_0 : Ref sig .tc).ty.Contents (Elt F) :=
  (win0_0.blk (0 : Fin 1)).view.read (Elt F) ((start₀ m ρ).mem ((c : Thread nD τ).loc main_arg0))

/-- Device `c`'s candidates. -/
def mine (c : Dev nD) : Vec F S1x512x16 .f32 := best (colsOf m ρ c)

/-- Device `c`'s result. -/
def resultOf (c : Dev nD) : (cc0_stg1_0 : Ref sig .tc).ty.Contents (Elt F) := merged (mine m ρ c) (mine m ρ (peer c))

abbrev Scr (F : FTy → Type) (c : Dev nD) : Type := Buf (Elt F) ((c : Thread nD τ).loc cc0_scratch0)

/-- What a load of slot 0, of slot 1, reads. -/
def load0 (f : (cc0_scratch0 : Ref sig .tc).ty.Contents (Elt F)) : Vec F S1x512x16 .f32 := scrM.view.readAt (Elt F) at0.toLoadRect f
def load1 (f : (cc0_scratch0 : Ref sig .tc).ty.Contents (Elt F)) : Vec F S1x512x16 .f32 := scrM.view.readAt (Elt F) at1.toLoadRect f

/-- Ownership of slot 0, of slot 1, of device `c`'s scratch. -/
def own0 (c : Dev nD) (f : Scr F c) : sProp 𝕄 := ((c : Thread nD τ).loc cc0_scratch0) ↦[at0.set]{fullShare} f
def own1 (c : Dev nD) (f : Scr F c) : sProp 𝕄 := ((c : Thread nD τ).loc cc0_scratch0) ↦[at1.set]{fullShare} f

/-- Slot 0 of `c` at contents a load reads as `v`; likewise slot 1. -/
def has0 (c : Dev nD) (v : Vec F S1x512x16 .f32) : sProp 𝕄 := iprop(∃ f : Scr F c, ⌜load0 f = v⌝ ∗ own0 c f)
def has1 (c : Dev nD) (v : Vec F S1x512x16 .f32) : sProp 𝕄 := iprop(∃ f : Scr F c, ⌜load1 f = v⌝ ∗ own1 c f)

omit [FloatOps F] in
instance own0_storable (c : Dev nD) (f : Scr F c) : BI.Storable (upEmb : UEmb _ 𝕄) (own0 c f) := by unfold own0; infer_instance
omit [FloatOps F] in
instance own1_storable (c : Dev nD) (f : Scr F c) : BI.Storable (upEmb : UEmb _ 𝕄) (own1 c f) := by unfold own1; infer_instance
omit [FloatOps F] in
instance has0_storable (c : Dev nD) (v : Vec F S1x512x16 .f32) : BI.Storable (upEmb : UEmb _ 𝕄) (has0 c v) := by unfold has0; infer_instance
omit [FloatOps F] in
instance has1_storable (c : Dev nD) (v : Vec F S1x512x16 .f32) : BI.Storable (upEmb : UEmb _ 𝕄) (has1 c v) := by unfold has1; infer_instance

theorem slot0_set : (slot0 : Memref sig .tc .vmem S512x16 .f32).view.set = at0.set :=
  (View.set_reshape _ _).trans (View.set_slice_whole cc0_scratch0 at0)
theorem slot1_set : (slot1 : Memref sig .tc .vmem S512x16 .f32).view.set = at1.set :=
  (View.set_reshape _ _).trans (View.set_slice_whole cc0_scratch0 at1)

/-- The two slots share no element, -/
theorem slots_disjoint : Disjoint at0.set at1.set := Rect.unit_disjoint 0 (Or.inl (by decide))
/-- and together are the whole buffer. -/
theorem slots_union : at0.set ∪ at1.set = Finset.univ := by
  refine Finset.eq_univ_iff_forall.mpr fun i => ?_
  have h0 : (i 0).val < 2 := (i 0).isLt
  have h1 : (i 1).val < 512 := (i 1).isLt
  have h2 : (i 2).val < 16 := (i 2).isLt
  rw [Finset.mem_union]
  by_cases h : (i 0).val = 0
  · left
    refine Rect.mem_set_unit.mpr fun a => ?_
    fin_cases a <;> simp <;> omega
  · right
    refine Rect.mem_set_unit.mpr fun a => ?_
    fin_cases a <;> simp <;> omega

omit [FloatOps F] in
/-- The scratch buffer is its two slots. -/
theorem scratch_split (c : Dev nD) (f : Scr F c) :
    (((c : Thread nD τ).loc cc0_scratch0) ↦{fullShare} f : sProp 𝕄) ⊢ iprop(own0 c f ∗ own1 c f) := by
  unfold own0 own1
  rw [← slots_union]
  exact (pointsTo_union slots_disjoint).1
omit [FloatOps F] in
/-- Two slots, at whatever contents, are the scratch buffer at some contents. -/
theorem scratch_join (c : Dev nD) (f g : Scr F c) :
    iprop(own0 c f ∗ own1 c g) ⊢ (iprop(∃ h : Scr F c, ((c : Thread nD τ).loc cc0_scratch0) ↦{fullShare} h) : sProp 𝕄) := by
  unfold own0 own1
  iintro H
  iexists (at1.set.piecewise g f)
  rw [← slots_union]
  iapply (pointsTo_join slots_disjoint) $$ H

omit [FloatOps F] in
/-- A store through slot 0 is read back by a load of slot 0. -/
theorem load0_store (f : (cc0_scratch0 : Ref sig .tc).ty.Contents (Elt F)) (w : Vec F S1x512x16 .f32) :
    load0 ((scrM.access at0 : View sig .tc _ _ _).write (Elt F) f w Finset.univ) = w := by
  unfold load0
  rw [View.readAt_rect]
  exact View.read_write_univ _ _
omit [FloatOps F] in
/-- A copy of slot 0 into another device's slot 1 is read back there as what slot 0 holds. -/
theorem load1_copy (f g : (cc0_scratch0 : Ref sig .tc).ty.Contents (Elt F)) :
    load1 (slot1.view.write (Elt F) g (slot0.view.read (Elt F) f) Finset.univ) = load0 f := by
  have h := View.read_write_univ (v := (slot1 : Memref sig .tc .vmem S512x16 .f32).view) g (slot0.view.read (Elt F) f)
  funext x
  have hx := congrFun h ((Shape.reshapeEquiv (squeezes_S1x512x16_S512x16).numel_eq).symm x)
  have e : (Shape.reshapeEquiv (squeezes_S1x512x16_S512x16).numel_eq)
      ((Shape.reshapeEquiv (squeezes_S1x512x16_S512x16).numel_eq).symm x) = x := Equiv.apply_symm_apply _ x
  have l1 : ∀ (u : (cc0_scratch0 : Ref sig .tc).ty.Contents (Elt F)) (y : S512x16.Idx),
      slot1.view.read (Elt F) u y = load1 u (Shape.reshapeEquiv (squeezes_S1x512x16_S512x16).numel_eq y) := fun u y => rfl
  have l0 : ∀ (u : (cc0_scratch0 : Ref sig .tc).ty.Contents (Elt F)) (y : S512x16.Idx),
      slot0.view.read (Elt F) u y = load0 u (Shape.reshapeEquiv (squeezes_S1x512x16_S512x16).numel_eq y) := fun u y => rfl
  rw [l1, l0, e] at hx
  exact hx

/-! ## The schedule of the three semaphores -/

/-- What the peer of `c` hands over with its signal: its own slot 1, at any contents, and the mark that its receive cell stands
    at its first round. -/
def grant (c : Dev nD) : sProp 𝕄 := iprop((∃ f : Scr F (peer c), own1 (peer c) f) ∗ reached EX (rcvC (peer c)) 0)

/-- Is `g` one of the exchange's cells? -/
abbrev IsCell (g : GSem nD τ sig) : Prop := g.1.2 = .tc ∧ (g.2 = .reg barS ∨ g.2 = .dma sndS.sem ∨ g.2 = .dma rcvS.sem)

/-- One round with one payment for every cell of the exchange. -/
def plan : Rounds.Schedule (GSem nD τ sig) Unit 𝕄 where
  duties g r := if r = 0 ∧ IsCell g then {()} else ∅
  unitless _ := False
  amount g _ _ := if g.2 = .reg barS then 1 else credit
  payload g _ _ :=
    if g.2 = .reg barS then grant g.1.1
    else if g.2 = .dma sndS.sem then has0 g.1.1 (mine m ρ g.1.1)
    else if g.2 = .dma rcvS.sem then has1 g.1.1 (mine m ρ (peer g.1.1))
    else iprop(emp)
  amount_pos g _ _ _ := by
    split
    · exact Nat.one_pos
    · exact credit_pos

instance plan_payload_storable (g : GSem nD τ sig) (r : ℕ) (d : Unit) :
    BI.Storable (upEmb : UEmb _ 𝕄) ((plan (F := F) m ρ).payload g r d) := by
  dsimp only [plan]
  unfold grant
  (repeat' split) <;> infer_instance

section Plan
variable (c : Dev nD)

theorem snd_ne_bar : (SemLoc.dma sndS.sem : SemLoc sig) ≠ .reg barS := fun h => by cases h
theorem rcv_ne_bar : (SemLoc.dma rcvS.sem : SemLoc sig) ≠ .reg barS := fun h => by cases h
theorem rcv_ne_snd : (SemLoc.dma rcvS.sem : SemLoc sig) ≠ .dma sndS.sem := by decide

/-- Every cell of the exchange has the one payment in its first round, -/
theorem duties_at (k : Fin 3) : (plan (F := F) m ρ).duties (cellAt (c, k)) 0 = {()} :=
  if_pos ⟨rfl, rfl, by fin_cases k <;> simp⟩
theorem pays (k : Fin 3) : () ∈ (plan (F := F) m ρ).duties (cellAt (c, k)) 0 := by
  rw [duties_at]; exact Finset.mem_singleton_self _
/-- and none later. -/
theorem duties_after (g : GSem nD τ sig) : ∀ r, 1 ≤ r → (plan (F := F) m ρ).duties g r = ∅ :=
  fun r hr => if_neg fun h => by omega

theorem amount_bar : (plan (F := F) m ρ).amount (barC c) 0 () = 1 := by dsimp only [plan]; exact if_pos rfl
theorem amount_snd : (plan (F := F) m ρ).amount (sndC c) 0 () = credit := by dsimp only [plan]; exact if_neg snd_ne_bar
theorem amount_rcv : (plan (F := F) m ρ).amount (rcvC c) 0 () = credit := by dsimp only [plan]; exact if_neg rcv_ne_bar

/-- What a cell's round collects in all is its one payment's amount. -/
theorem expect_at (k : Fin 3) : (plan (F := F) m ρ).expect (cellAt (c, k)) 0 = (plan (F := F) m ρ).amount (cellAt (c, k)) 0 () := by
  unfold Schedule.expect Schedule.amountOf; rw [duties_at, Finset.sum_singleton]

theorem payload_bar : (plan (F := F) m ρ).payload (barC c) 0 () = grant c := by dsimp only [plan]; exact if_pos rfl
theorem payload_snd : (plan (F := F) m ρ).payload (sndC c) 0 () = has0 c (mine m ρ c) := by
  dsimp only [plan]; rw [if_neg snd_ne_bar, if_pos rfl]
theorem payload_rcv : (plan (F := F) m ρ).payload (rcvC c) 0 () = has1 c (mine m ρ (peer c)) := by
  dsimp only [plan]; rw [if_neg rcv_ne_bar, if_neg rcv_ne_snd, if_pos rfl]

/-- What a wait that collects a whole round of a cell gets: the one payload. -/
theorem collected (k : Fin 3) :
    bigSep ((plan (F := F) m ρ).duties (cellAt (c, k)) 0 \ ∅) (fun d => (plan (F := F) m ρ).payload (cellAt (c, k)) 0 d)
      = (plan (F := F) m ρ).payload (cellAt (c, k)) 0 () := by
  rw [Finset.sdiff_empty, duties_at, bigSep_singleton]

end Plan

/-! ## What a device owes, and the order of waiting -/

/-- Device `c` owes its peer's receive cell one copy and its peer's barrier cell one unit. -/
def debt (c : Dev nD) : CellTallies nD τ sig Unit := tallyAt (rcvC (peer c)) () credit + tallyAt (barC (peer c)) () 1

/-- Every cell of a core has one level: barriers 1, receives 2, the rest 0. -/
def names (g : GSem nD τ sig) : Finset Unit := if g.1.2 = .tc then {()} else ∅
def level (g : GSem nD τ sig) (_ : Unit) : ℕ := if g.2 = .reg barS then 1 else if g.2 = .dma rcvS.sem then 2 else 0

theorem names_other (g : GSem nD τ sig) (h : g.1.2 ≠ .tc) : names g = ∅ := if_neg h
theorem mem_names (c : Dev nD) (sm : SemLoc sig) (u : Unit) : u ∈ names ((c : Thread nD τ), sm) := by
  unfold names; rw [if_pos rfl]; exact Finset.mem_singleton_self _
theorem level_bar (c : Dev nD) (u : Unit) : level (barC c) u = 1 := if_pos rfl
theorem level_rcv (c : Dev nD) (u : Unit) : level (rcvC c) u = 2 := (if_neg rcv_ne_bar).trans (if_pos rfl)

/-- A cell that a single tally charges is the tally's cell. -/
theorem charged {g g' : GSem nD τ sig} {n : ℕ} {u : Unit} (h : 0 < (tallyAt g' () n : CellTallies nD τ sig Unit) g u) : g = g' := by
  by_contra hn
  rw [tallyAt_apply, if_neg (fun h' => hn h'.1)] at h
  exact Nat.lt_irrefl 0 h

theorem debt_cells {c : Dev nD} {g : GSem nD τ sig} {u : Unit} (h : 0 < debt c g u) : g = rcvC (peer c) ∨ g = barC (peer c) := by
  unfold debt at h
  rw [Pi.add_apply, Finsupp.add_apply] at h
  rcases Nat.add_pos_iff_pos_or_pos.mp h with h | h
  · exact Or.inl (charged h)
  · exact Or.inr (charged h)

omit [FloatOps F] in
/-- A staging cell, at the lowest level, may be waited on whatever of its debt a device still owes. -/
theorem wait_staging (c : Dev nD) (q : DmaSem sig) (hq : SemLoc.dma q ≠ .dma rcvS.sem) (O : CellTallies nD τ sig Unit) (hO : O = debt c ∨ O = 0) :
    (levAts names level : sProp 𝕄) ⊢ MayWait (c : Thread nD τ) (.dma q) () O := by
  rcases hO with rfl | rfl
  · refine MayOwe.of_cut (L := names) (lev := level) 0 (fun p hp => by rw [Finset.mem_singleton.mp hp]; exact mem_names _ _ _)
      (fun g u hg => by rcases debt_cells hg with rfl | rfl <;> exact mem_names _ _ _)
      (fun p hp => by rw [Finset.mem_singleton.mp hp]; exact le_of_eq ((if_neg (fun h => by cases h)).trans (if_neg hq)))
      (fun g u hg => by
        rcases debt_cells hg with rfl | rfl
        · rw [level_rcv]; decide
        · rw [level_bar]; decide)
  · rw [MayWait_zero]; iintro -; iempintro

omit [FloatOps F] in
/-- At its barrier wait a device still owes the copy, into a receive cell: above its barrier cell. -/
theorem wait_barrier (c : Dev nD) :
    (levAts names level : sProp 𝕄) ⊢ MayWait (c : Thread nD τ) (.reg barS) () (tallyAt (rcvC (peer c)) () credit) :=
  MayOwe.of_cut (L := names) (lev := level) 1 (fun p hp => by rw [Finset.mem_singleton.mp hp]; exact mem_names _ _ _)
    (fun g u hg => by rw [charged hg]; exact mem_names _ _ _)
    (fun p hp => by rw [Finset.mem_singleton.mp hp]; exact le_of_eq (level_bar c ()))
    (fun g u hg => by rw [charged hg, level_rcv]; decide)

/-! ## What the body starts from and ends in -/

/-- The invariants the body of device `c` opens, under the names `K`. -/
def invs (K : Dev nD × Fin 3 → ℕ) (c : Dev nD) : sProp 𝕄 :=
  iprop(cellInv EX (plan m ρ) (K (c, 0)) (barC c) ∗ cellInv EX (plan m ρ) (K (c, 1)) (sndC c) ∗ cellInv EX (plan m ρ) (K (c, 2)) (rcvC c)
    ∗ cellInv EX (plan m ρ) (K (peer c, 0)) (barC (peer c)) ∗ cellInv EX (plan m ρ) (K (peer c, 2)) (rcvC (peer c)))

instance invs_persistent (K : Dev nD × Fin 3 → ℕ) (c : Dev nD) : BI.Persistent (invs m ρ K c) := by unfold invs; infer_instance

/-- The protocol state of device `c`: its positions on its own cells, the marks of the cells it pays, and the right to pay its
    peer's barrier, its peer's receive cell and its own send cell. -/
def ghost (K : Dev nD × Fin 3 → ℕ) (c : Dev nD) : sProp 𝕄 :=
  iprop(invs m ρ K c
    ∗ (atPos EX (barC c) 0 ∅ 0 ∗ atPos EX (sndC c) 0 ∅ 0 ∗ atPos EX (rcvC c) 0 ∅ 0)
    ∗ (reached EX (barC (peer c)) 0 ∗ reached EX (sndC c) 0 ∗ reached EX (rcvC c) 0)
    ∗ dutyTok EX (barC (peer c)) 0 () ∗ dutyTok EX (sndC c) 0 () ∗ dutyTok EX (rcvC (peer c)) 0 ())

/-- With it, the credit of the two payments it waits for and the levels. -/
def start (c : Dev nD) : sProp 𝕄 :=
  iprop((∃ K, ghost m ρ K c) ∗ cred (tallyAt (barC c) () 1) ∗ cred (tallyAt (rcvC c) () credit) ∗ levAts names level)

/-- Before the body: the protocol state and the scratch buffer. -/
def before (c : Dev nD) : sProp 𝕄 := iprop(start m ρ c ∗ ∃ f : Scr F c, ((c : Thread nD τ).loc cc0_scratch0) ↦{fullShare} f)
/-- After it: the scratch buffer, and the three cells closed with their counters at zero. -/
def behind (c : Dev nD) : sProp 𝕄 :=
  iprop((∃ f : Scr F c, ((c : Thread nD τ).loc cc0_scratch0) ↦{fullShare} f) ∗ semVal (sndC c) 0 ∗ semVal (rcvC c) 0 ∗ semVal (barC c) 0)

/-- The pipeline's data: the columns stay, the result buffer ends at `resultOf`. -/
def dats (_ : Fin 1) (c : Dev nD) : Dat τ (Elt F) Unit ℕ XU ℕ cfg0 c where
  A w := (start₀ m ρ).mem ((cfg0.win w).arr.view.loc (c : Thread nD τ))
  after w _ := match w with
    | ⟨0, _⟩ => colsOf m ρ c
    | ⟨1, _⟩ => resultOf m ρ c
  Φ t := match t with
    | ⟨0, _⟩ => before m ρ c
    | ⟨_ + 1, _⟩ => behind c
  q _ := fullShare
  owed t := match t with
    | ⟨0, _⟩ => debt c
    | ⟨_ + 1, _⟩ => 0

abbrev 𝒱₀ : Variants := Variants.none

end Cert.KernelIdeal.Exchange

end
-- ==== Proof.KernelIdealBody.lean ====
/-
One run of the kernel's body: the exchange of Proof/KernelIdealExchange.lean carried out effect by effect.
-/
module

public import proofs.«01_k».proof.Proof.KernelIdealExchange

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ XU ℕ

/-! ## The body -/

section Body
variable (K : Dev nD × Fin 3 → ℕ)

abbrev allIn : Rect S512x4096 := Rect.unit (s := S512x4096) ![0, 0] S512x4096.size inb_S512x4096_S512x4096_0_0
abbrev allOut : Rect S512x16 := Rect.unit (s := S512x16) ![0, 0] S512x16.size inb_S512x16_S512x16_0_0

theorem origin : (![0, 0] : Fin 2 → Nat) = fun _ => 0 := funext fun a => by fin_cases a <;> rfl
omit [FloatOps F] in
theorem load_in (f : (cc0_stg0_0 : Ref sig .tc).ty.Contents (Elt F)) : inM.view.readAt (Elt F) allIn.toLoadRect f = f :=
  Memref.readAt_unit_zero (Elt F) cc0_stg0_0 origin _ f
omit [FloatOps F] in
theorem store_out (f w : (cc0_stg1_0 : Ref sig .tc).ty.Contents (Elt F)) :
    ((outM.access allOut : View sig .tc _ _ _)).write (Elt F) f w Finset.univ = w :=
  Memref.write_access_unit_zero_univ (Elt F) cc0_stg1_0 origin _ f w

theorem reads0 : (scrM : Memref sig .tc .vmem S2x512x16 .f32).view.setOn at0.toLoadRect.set ⊆ at0.set := by
  rw [View.setOn, show (scrM : Memref sig .tc .vmem S2x512x16 .f32).view.emb = Function.Embedding.refl _ from rfl, Finset.map_refl]
theorem reads1 : (scrM : Memref sig .tc .vmem S2x512x16 .f32).view.setOn at1.toLoadRect.set ⊆ at1.set := by
  rw [View.setOn, show (scrM : Memref sig .tc .vmem S2x512x16 .f32).view.emb = Function.Embedding.refl _ from rfl, Finset.map_refl]
theorem stores0 : (scrM.access at0 : View sig .tc _ _ _).setOn Finset.univ ⊆ at0.set :=
  subset_of_eq (View.set_slice_whole cc0_scratch0 at0)

omit [FloatOps F] in
/-- A whole staged buffer, owned, is its points-to. -/
theorem staged_whole (c : Dev nD) (b : Ref sig .tc) (X : b.ty.Contents (Elt F)) :
    (owns (Ix := Unit) (Name := ℕ) (U := XU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The copy to the peer `n`: slot 0 is lent and the peer's slot 1 given up; the device then owes nothing more. -/
theorem copy_step (c n : Dev nD) (hn : n = peer c) {hsc : (slot1 : Memref sig (Dev.tc n : Thread nD τ).2.kind .vmem S512x16 .f32).view.ref.isScScratch = false}
    {hsrc : (slot0 : Memref sig .tc .vmem S512x16 .f32).view.WordExact} {hdst : (slot1 : Memref sig .tc .vmem S512x16 .f32).view.WordExact}
    {hsem : DmaTarget.Typed .vmem (.dma rcvS.sem) (.remote (Dev.tc n : Thread nD τ) (slot1 : Memref sig .tc .vmem S512x16 .f32) (.dma sndS.sem) hsc)}
    {α : Type} {Q : α → sProp 𝕄} {k : PUnit → Prog (TpuEff nD τ sig (Elt F) Λ₀ .tc) α}
    (f : Scr F c) (hf : load0 f = mine m ρ c) (g : Scr F (peer c)) (W : Waits sig Unit) :
    iprop(cellInv EX (plan m ρ) (K (c, 1)) (sndC c) ∗ cellInv EX (plan m ρ) (K (peer c, 2)) (rcvC (peer c))
        ∗ own0 c f ∗ own1 (peer c) g
        ∗ owes (c : Thread nD τ) (tallyAt (rcvC (peer c)) () credit) W
        ∗ dutyTok EX (sndC c) 0 () ∗ reached EX (sndC c) 0
        ∗ dutyTok EX (rcvC (peer c)) 0 () ∗ reached EX (rcvC (peer c)) 0)
      ⊢ iprop(((cred (tallyAt (sndC c) () credit) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sndS.sem) hsc) (.dma rcvS.sem) hsrc hdst hsem) k) Q) := by
  subst hn
  have h := Rounds.wp_send_pointsTo 𝒱₀ EX (plan m ρ) (c : Thread nD τ) none (src := slot0) (dst := slot1) (c' := (Dev.tc (peer c) : Thread nD τ))
    (hsc := hsc) (hsrc := hsrc) (hdst := hdst) (hsem := hsem) (k := k) (Q := Q) (defs := defs₀ (F := F)) (q := fullShare) (Γ := .empty) (Es := Set.univ)
    (κ₁ := K (c, 1)) (κ₂ := K (peer c, 2)) (fs := f) (r₁ := 0) (r₂ := 0) (d₁ := ()) (d₂ := ()) (fd := g)
    (pays m ρ c 1) (pays m ρ (peer c) 2)
    () () credit rfl (amount_snd m ρ c) (amount_rcv m ρ (peer c)) 0 (by rw [zero_add]) (W := W)
    (by
      rw [payload_snd, slot0_set]
      unfold has0 own0
      iintro H
      iexists f
      isplitr; · ipureintro; exact hf
      iexact H)
    (by
      rw [payload_rcv, slot1_set, peer_peer]
      unfold has1 own1
      iintro H
      iexists _
      isplitr
      · ipureintro
        exact (load1_copy f g).trans hf
      iexact H)
  rw [slot0_set, slot1_set] at h
  exact h

/-- A staged buffer of the core, whole, at contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barC c) () 1) ∗ cred (tallyAt (rcvC c) () credit) ∗ levAts names level)
    ∗ (∃ f : Scr F c, ((c : Thread nD τ).loc cc0_scratch0) ↦{fullShare} f)
    ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

def bodyPost (c : Dev nD) : sProp 𝕄 :=
  iprop(behind c ∗ (dats m ρ 0 c).owesAt () t0_0.succ ∗ staged c cc0_stg0_0 (colsOf m ρ c) ∗ staged c cc0_stg1_0 (resultOf m ρ c))

set_option maxRecDepth 65536 in
set_option maxHeartbeats 1600000 in
/-- The body run once, on any device: one rule per effect, in the program's order. -/
theorem body_run (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre ghost invs
  iintro ⟨⟨⟨⟨⟨#IB, #IS, #IR, #IBp, #IRp⟩, ⟨AB, AS, AR⟩, ⟨#MBp, #MS, #MR⟩, TB, TS, TR⟩, CB, CR, #Lev⟩,
    ⟨%f0, Scr⟩, Ho, ⟨%d0, %g0, %hg0, Hx⟩, ⟨%d1, %g1, %hg1, Hout⟩⟩, Hk⟩
  have hx : g0 = colsOf m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = debt c from rfl]
  simp only [signal_to c]
  ihave Scr' := (scratch_split (F := F) c f0) $$ Scr
  icases Scr' with ⟨H0, H1⟩
  -- the columns; slot 0, read for nothing and stored
  iapply (wp_load 𝒱₀ (c : Thread nD τ) none Set.univ (m := inM) (Finset.subset_univ _)) $$ Hx; iintro Hx
  rw [load_in]
  unfold own0
  iapply (wp_load 𝒱₀ (c : Thread nD τ) none Set.univ (m := scrM) (S := at0.set) reads0) $$ H0; iintro H0
  iapply (wp_store 𝒱₀ (c : Thread nD τ) none Set.univ (m := scrM) (r := at0) (Mk := Finset.univ) (S := at0.set) stores0) $$ H0; iintro H0
  -- the signal: slot 1 may be written
  unfold debt
  iapply (Rounds.wp_signal 𝒱₀ EX (plan m ρ) (c : Thread nD τ) none (dst := (peer c : Thread nD τ)) (κ := K (peer c, 0))
      (d := ()) (pays m ρ (peer c) 0) ((amount_bar m ρ (peer c)).trans (by decide)) () (tallyAt (rcvC (peer c)) () credit) rfl)
    $$ [HO TB H1]
  · isplitr; · iexact IBp
    isplitl [HO]; · iexact HO
    isplitl [TB]; · iexact TB
    isplitl [H1]
    · rw [payload_bar]; unfold grant; rw [peer_peer]
      isplitl [H1]; · iexists f0; iexact H1
      iexact MR
    · iexact MBp
  iintro HO
  -- the wait for the peer's signal
  iapply (Rounds.wp_wait_rest_token 𝒱₀ EX (plan m ρ) (c : Thread nD τ) none (κ := K (c, 0))
      (wpE_semWait_eq 𝒱₀ (c : Thread nD τ) none Set.univ) (Set.mem_univ _) () (O := tallyAt (rcvC (peer c)) () credit) (W := W) (R := 0) (m := 0) (T := ∅)
      (by rw [expect_at m ρ c 0, amount_bar]; decide)) $$ [CB HO AB]
  · isplitr; · iexact IB
    isplitl [CB]; · iexact CB
    isplitl [HO]; · iexact HO
    isplitr; · iapply (wait_barrier c); iexact Lev
    iexact AB
  iintro ⟨HO, AB, -, Hpay⟩
  ihave Hp := (Entails.of_eq ((collected m ρ c 0).trans (payload_bar m ρ c))) $$ Hpay
  unfold grant
  icases Hp with ⟨⟨%fn, Hn⟩, #MRp⟩
  -- the copy
  iapply (copy_step m ρ K c _ (copy_to c) _ (load0_store f0 _) fn (insert (SemLoc.reg barS, ()) W)) $$ [H0 Hn HO TS TR]
  · isplitr; · iexact IS
    isplitr; · iexact IRp
    isplitl [H0]; · unfold own0; iexact H0
    isplitl [Hn]; · iexact Hn
    isplitl [HO]; · iexact HO
    isplitl [TS]; · iexact TS
    isplitr; · iexact MS
    isplitl [TR]; · iexact TR
    iexact MRp
  iintro ⟨CS, HO⟩
  -- the wait on the send cell: slot 0 is back
  iapply (Rounds.wp_wait_rest_token 𝒱₀ EX (plan m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_at m ρ c 1, amount_snd])) $$ [CS HO AS]
  · isplitr; · iexact IS
    isplitl [CS]; · iexact CS
    isplitl [HO]; · iexact HO
    isplitr; · rw [MayWait_zero]; iempintro
    iexact AS
  iintro ⟨HO, AS, -, Hpay⟩
  ihave Hp := (Entails.of_eq ((collected m ρ c 1).trans (payload_snd m ρ c))) $$ Hpay
  unfold has0
  icases Hp with ⟨%f2, %hf2, H0⟩
  -- the wait on the receive cell: slot 1 holds the peer's candidates
  iapply (Rounds.wp_wait_rest_token 𝒱₀ EX (plan m ρ) (c : Thread nD τ) none (κ := K (c, 2))
      (wpE_waitDma2_eq 𝒱₀ (c : Thread nD τ) none Set.univ) (Set.mem_univ _) () (O := 0)
      (W := insert (SemLoc.dma sndS.sem, ()) (insert (SemLoc.reg barS, ()) W)) (R := 0) (m := 0) (T := ∅)
      (by rw [Nat.zero_add, expect_at m ρ c 2, amount_rcv])) $$ [CR HO AR]
  · isplitr; · iexact IR
    isplitl [CR]; · iexact CR
    isplitl [HO]; · iexact HO
    isplitr; · rw [MayWait_zero]; iempintro
    iexact AR
  iintro ⟨HO, AR, -, Hpay⟩
  ihave Hp := (Entails.of_eq ((collected m ρ c 2).trans (payload_rcv m ρ c))) $$ Hpay
  unfold has1
  icases Hp with ⟨%f3, %hf3, H1⟩
  -- the three cells close
  imod (Rounds.cell_close EX (plan m ρ) (Set.mem_univ (K (c, 1))) (fun h => h) (R := 0 + 1) (duties_after m ρ (sndC c))) $$ [AS] with ZS
  · isplitr; · iexact IS
    iexact AS
  imod (Rounds.cell_close EX (plan m ρ) (Set.mem_univ (K (c, 2))) (fun h => h) (R := 0 + 1) (duties_after m ρ (rcvC c))) $$ [AR] with ZR
  · isplitr; · iexact IR
    iexact AR
  imod (Rounds.cell_close EX (plan m ρ) (Set.mem_univ (K (c, 0))) (fun h => h) (R := 0 + 1) (duties_after m ρ (barC c))) $$ [AB] with ZB
  · isplitr; · iexact IB
    iexact AB
  -- both slots, the result buffer read for nothing, the result stored
  unfold own0 own1
  iapply (wp_load 𝒱₀ (c : Thread nD τ) none Set.univ (m := scrM) (S := at0.set) reads0) $$ H0; iintro H0
  iapply (wp_load 𝒱₀ (c : Thread nD τ) none Set.univ (m := scrM) (S := at1.set) reads1) $$ H1; iintro H1
  rw [show scrM.view.readAt (Elt F) at0.toLoadRect f2 = mine m ρ c from hf2, show scrM.view.readAt (Elt F) at1.toLoadRect f3 = mine m ρ (peer c) from hf3]
  iapply (wp_load 𝒱₀ (c : Thread nD τ) none Set.univ (m := outM) (Finset.subset_univ _)) $$ Hout; iintro Hout
  iapply (wp_store 𝒱₀ (c : Thread nD τ) none Set.univ (m := outM) (r := allOut) (Mk := Finset.univ) (Finset.subset_univ _)) $$ Hout; iintro Hout
  rw [store_out, wp_ret]; imodintro
  iapply Hk
  unfold bodyPost behind Dat.owesAt Pipeline.owesWithin
  rw [show (dats m ρ 0 c).owed t0_0.succ = 0 from rfl]
  isplitl [H0 H1 ZS ZR ZB]
  · isplitl [H0 H1]
    · iapply (scratch_join (F := F) c f2 f3)
      unfold own0 own1
      isplitl [H0] <;> iassumption
    isplitl [ZS]; · iexact ZS
    isplitl [ZR] <;> iassumption
  isplitl [HO]
  · iexists (insert (SemLoc.dma rcvS.sem, ()) (insert (SemLoc.dma sndS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

/-- The pipeline's obligation for the body on core `c`. -/
theorem body_obligation (c : Dev nD) : BodyObligation (dats (F := F) m ρ 0 c) (defs₀ (F := F)) 𝒱₀ () Set.univ := fun t => by
  rw [fin_N0 t, bigSep_W0, bigSep_W0]
  simp only [staged_whole]
  show iprop(before m ρ c ∗ (dats m ρ 0 c).owesAt () t0_0.castSucc
      ∗ (∃ d, staged c cc0_stg0_0 ((dats m ρ 0 c).before (0 : Fin 2) t0_0 d))
      ∗ (∃ d, staged c cc0_stg1_0 ((dats m ρ 0 c).before (1 : Fin 2) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c)
  unfold before start
  iintro ⟨⟨⟨⟨%K, Hg⟩, Hc⟩, Hs⟩, Hrest⟩
  iapply (body_run m ρ K c fun _ => bodyPost m ρ c)
  unfold bodyPre
  isplitl
  · isplitl [Hg Hc]
    · isplitl [Hg] <;> iassumption
    isplitl [Hs] <;> iassumption
  · iintro H; iexact H

end Body

end Cert.KernelIdeal.Exchange

end
-- ==== Proof.KernelIdealLaunch.lean ====
/-
The launch: the protocol state of Proof/KernelIdealExchange.lean is made for all devices at once, dealt to them, and the whole
program runs from any memory with zero counters to the results `resultOf`, every counter back at zero.
-/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ XU ℕ

/-! ## Making and dealing the protocol state -/

theorem ownSemFacts : Pipeline.OwnSemFacts cfg0.spec ownSem := by decide
theorem share_full (c : Dev nD) (w : Fin cfg0.W) : (dats m ρ 0 c).share w = fullShare := by unfold Dat.share; split <;> rfl

/-- The cells are told apart by device and semaphore. -/
theorem cellAt_injective : Function.Injective (cellAt : Dev nD × Fin 3 → GSem nD τ sig) := by
  rintro ⟨c, k⟩ ⟨c', k'⟩ h
  obtain rfl : c = c' := congrArg (fun g : GSem nD τ sig => g.1.1) h
  have h2 : allSem k = allSem k' := congrArg Prod.snd h
  have : ∀ i j : Fin 3, allSem i = allSem j → i = j := by decide
  rw [this k k' h2]
def cells₀ : Finset (GSem nD τ sig) := Finset.univ.map ⟨cellAt, cellAt_injective⟩

/-- The payments, one for each cell. -/
abbrev payAt (ck : Dev nD × Fin 3) : GSem nD τ sig × ℕ × Unit := (cellAt ck, 0, ())
theorem payAt_injective : Function.Injective (payAt : Dev nD × Fin 3 → GSem nD τ sig × ℕ × Unit) :=
  fun _ _ h => cellAt_injective (congrArg Prod.fst h)
def pays₀ : Finset (GSem nD τ sig × ℕ × Unit) := Finset.univ.map ⟨payAt, payAt_injective⟩

def u₀ : XU := (initOf (Pipeline.cells cfgs cellOf_inj) (Pipeline.launchToks cfgs cellOf_inj), initOf cells₀ pays₀)

/-- The rights to pay device `c`'s own cells, as made; -/
def tokens (c : Dev nD) : sProp 𝕄 := iprop(dutyTok EX (barC c) 0 () ∗ dutyTok EX (sndC c) 0 () ∗ dutyTok EX (rcvC c) 0 ())
/-- and the rights device `c` is dealt. -/
def payTokens (c : Dev nD) : sProp 𝕄 := iprop(dutyTok EX (barC (peer c)) 0 () ∗ dutyTok EX (sndC c) 0 () ∗ dutyTok EX (rcvC (peer c)) 0 ())

/-- What is made for device `c`, before its counters join. -/
def G (c : Dev nD) : sProp 𝕄 :=
  iprop((bigSep Finset.univ fun k : Fin 3 => roundState EX (plan m ρ) (cellAt (c, k)) 0)
    ∗ (bigSep Finset.univ fun k : Fin 3 => iprop(atPos EX (cellAt (c, k)) 0 ∅ 0 ∗ reached EX (cellAt (c, k)) 0)) ∗ tokens c)
/-- What it is dealt in the end. -/
def G' (c : Dev nD) : sProp 𝕄 := iprop(∃ K, ghost m ρ K c)

omit [FloatOps F] in
theorem three (Φ : Fin 3 → sProp 𝕄) : bigSep Finset.univ Φ = iprop(Φ 0 ∗ Φ 1 ∗ Φ 2) := bigSep_univ_eq_bigSepL [0, 1, 2] (by decide) (by decide) Φ

/-- The exchange's part of the launch element pays for every device's `G`. -/
theorem fund_all : BI.own (EX (initOf cells₀ pays₀)) ⊢ (|==> bigSep Finset.univ (G m ρ) : sProp 𝕄) := by
  have hC (Φ : GSem nD τ sig → sProp 𝕄) : bigSep cells₀ Φ = bigSep Finset.univ fun c : Dev nD => bigSep Finset.univ fun k : Fin 3 => Φ (cellAt (c, k)) := by
    unfold cells₀; rw [bigSep_map, bigSep_univ_prod]; rfl
  have hP : bigSep pays₀ (fun x => (dutyTok EX x.1 x.2.1 x.2.2 : sProp 𝕄)) = bigSep Finset.univ fun c : Dev nD => tokens c := by
    unfold pays₀; rw [bigSep_map, bigSep_univ_prod]
    exact bigSep_congr fun c _ => by unfold tokens; rw [three]; rfl
  iintro H
  imod (Rounds.fund EX (plan m ρ) cells₀ pays₀) $$ H with ⟨Hs, Hr, Ha, Ht⟩
  imodintro
  ihave Hs' := (Entails.of_eq (hC fun g => roundState EX (plan m ρ) g 0)) $$ Hs
  ihave Ha' := (Entails.of_eq (hC fun g => atPos EX g 0 ∅ 0)) $$ Ha
  ihave Hr' := (Entails.of_eq (hC fun g => reached EX g 0)) $$ Hr
  ihave Ht' := (Entails.of_eq hP) $$ Ht
  unfold G; simp only [bigSep_sep']
  isplitl [Hs']; · iexact Hs'
  isplitl [Ha' Hr']
  · isplitl [Ha'] <;> iassumption
  iexact Ht'

omit [FloatOps F] in
theorem ownSems_eq (c : Dev nD) : (Pipeline.ownSems0 (Ix := Unit) (Name := ℕ) (U := XU) (Lvl := ℕ) (Val := Elt F) (τ := τ) ownSem c : sProp 𝕄)
    = iprop(semVal (sndC c) 0 ∗ semVal (rcvC c) 0) := by
  rw [Pipeline.ownSems0_eq_of_list c ownSem [0, 1] (by decide) (by decide)]; rfl
omit [FloatOps F] in
theorem barrierSem_eq (c : Dev nD) : (unscopedSems0 c : sProp 𝕄) = semVal (barC c) 0 := by
  unfold unscopedSems0; rw [bigSep_eq_bigSepL_of_eq [SemLoc.reg barS] (by decide) (by decide)]; rfl

/-- Device `c`'s three counters and round states become three invariants. -/
theorem alloc_one (c : Dev nD) :
    iprop(Pipeline.ownSems0 (Ix := Unit) (Name := ℕ) (U := XU) (Lvl := ℕ) (Val := Elt F) (τ := τ) ownSem c ∗ unscopedSems0 c ∗ G m ρ c)
      ⊢ |={Set.univ}=> iprop((bigSep Finset.univ fun k => iprop(∃ κ : ℕ, cellInv EX (plan m ρ) κ (cellAt (c, k))))
          ∗ (bigSep Finset.univ fun k => iprop(atPos EX (cellAt (c, k)) 0 ∅ 0 ∗ reached EX (cellAt (c, k)) 0)) ∗ tokens c) := by
  unfold G
  rw [ownSems_eq, barrierSem_eq]
  iintro ⟨⟨VS, VR⟩, VB, Hst, Hrest⟩
  imod (show iprop((bigSep Finset.univ fun k : Fin 3 => semVal (cellAt (c, k)) 0) ∗ bigSep Finset.univ fun k : Fin 3 => roundState EX (plan m ρ) (cellAt (c, k)) 0)
      ⊢ (|={Set.univ}=> bigSep Finset.univ fun k => iprop(∃ κ : ℕ, cellInv EX (plan m ρ) κ (cellAt (c, k))) : sProp 𝕄) from by
        rw [← bigSep_sep']
        exact (bigSep_mono fun k _ => (Rounds.body_intro EX (plan m ρ) (cellAt (c, k))).trans inv_alloc).trans (bigSep_fupd _ _)) $$ [VS VR VB Hst] with HI
  · isplitr [Hst]
    · rw [three]
      isplitl [VB]; · iexact VB
      isplitl [VS] <;> iassumption
    iexact Hst
  imodintro
  isplitl [HI] <;> iassumption

/-- All invariants and all first marks, which everybody may read. -/
def known (K : Dev nD × Fin 3 → ℕ) : sProp 𝕄 :=
  iprop((bigSep Finset.univ fun ck : Dev nD × Fin 3 => cellInv EX (plan m ρ) (K ck) (cellAt ck))
    ∗ bigSep Finset.univ fun ck : Dev nD × Fin 3 => reached EX (cellAt ck) 0)
instance known_persistent (K : Dev nD × Fin 3 → ℕ) : BI.Persistent (known m ρ K) := by unfold known; infer_instance

theorem known_inv (K : Dev nD × Fin 3 → ℕ) (ck : Dev nD × Fin 3) : known m ρ K ⊢ cellInv EX (plan m ρ) (K ck) (cellAt ck) := by
  unfold known
  iintro ⟨H, -⟩
  have h : (bigSep Finset.univ fun ck : Dev nD × Fin 3 => (cellInv EX (plan m ρ) (K ck) (cellAt ck) : sProp 𝕄)) ⊢ cellInv EX (plan m ρ) (K ck) (cellAt ck) :=
    bigSep_elim (Finset.mem_univ ck)
  iapply h; iexact H
theorem known_mark (K : Dev nD × Fin 3 → ℕ) (ck : Dev nD × Fin 3) : known m ρ K ⊢ reached EX (cellAt ck) 0 := by
  unfold known
  iintro ⟨-, H⟩
  have h : (bigSep Finset.univ fun ck : Dev nD × Fin 3 => (reached EX (cellAt ck) 0 : sProp 𝕄)) ⊢ reached EX (cellAt ck) 0 := bigSep_elim (Finset.mem_univ ck)
  iapply h; iexact H

/-- What is known, a device's positions and its rights make its protocol state. -/
theorem deal_one (K : Dev nD × Fin 3 → ℕ) (c : Dev nD) :
    iprop(known m ρ K ∗ (bigSep Finset.univ fun k : Fin 3 => (atPos EX (cellAt (c, k)) 0 ∅ 0 : sProp 𝕄)) ∗ payTokens c) ⊢ G' m ρ c := by
  unfold payTokens G' ghost invs
  rw [three]
  iintro ⟨#HK, ⟨AB, AS, AR⟩, TB, TS, TR⟩
  iexists K
  isplitr
  · isplitr; · iapply (known_inv m ρ K (c, 0)); iexact HK
    isplitr; · iapply (known_inv m ρ K (c, 1)); iexact HK
    isplitr; · iapply (known_inv m ρ K (c, 2)); iexact HK
    isplitr; · iapply (known_inv m ρ K (peer c, 0)); iexact HK
    iapply (known_inv m ρ K (peer c, 2)); iexact HK
  isplitl [AB AS AR]
  · isplitl [AB]; · iexact AB
    isplitl [AS] <;> iassumption
  isplitr
  · isplitr; · iapply (known_mark m ρ K (peer c, 0)); iexact HK
    isplitr; · iapply (known_mark m ρ K (c, 1)); iexact HK
    iapply (known_mark m ρ K (c, 2)); iexact HK
  isplitl [TB]; · iexact TB
  isplitl [TS] <;> iassumption

omit [FloatOps F] in
/-- The rights are dealt across each pair: barrier and receive cells are paid by the peer. -/
theorem tokens_across : (bigSep Finset.univ fun c : Dev nD => (tokens c : sProp 𝕄)) ⊢ bigSep Finset.univ fun c : Dev nD => payTokens c := by
  unfold tokens payTokens
  rw [bigSep_sep', bigSep_sep', bigSep_sep', bigSep_sep',
    bigSep_univ_equiv pairing (fun c : Dev nD => (dutyTok EX (barC c) 0 () : sProp 𝕄)),
    bigSep_univ_equiv pairing (fun c : Dev nD => (dutyTok EX (rcvC c) 0 () : sProp 𝕄))]
  exact BI.Entails.refl _

/-- From every device's invariants, positions and rights to every device's protocol state. -/
theorem deal_all :
    (bigSep Finset.univ fun c : Dev nD => iprop((bigSep Finset.univ fun k => iprop(∃ κ : ℕ, cellInv EX (plan m ρ) κ (cellAt (c, k))))
          ∗ (bigSep Finset.univ fun k => iprop(atPos EX (cellAt (c, k)) 0 ∅ 0 ∗ reached EX (cellAt (c, k)) 0)) ∗ tokens c) : sProp 𝕄)
      ⊢ bigSep Finset.univ (G' m ρ) := by
  rw [bigSep_sep', bigSep_sep', ← bigSep_univ_prod (fun ck : Dev nD × Fin 3 => iprop(∃ κ : ℕ, cellInv EX (plan m ρ) κ (cellAt ck))),
    bigSep_congr (s := Finset.univ) (fun (c : Dev nD) _ => bigSep_sep' Finset.univ (fun k : Fin 3 => (atPos EX (cellAt (c, k)) 0 ∅ 0 : sProp 𝕄)) (fun k => reached EX (cellAt (c, k)) 0)),
    bigSep_sep', ← bigSep_univ_prod (fun ck : Dev nD × Fin 3 => (reached EX (cellAt ck) 0 : sProp 𝕄))]
  iintro ⟨HI, ⟨HA, #HR⟩, HT⟩
  ihave HK := (BI.bigSep_exists_pi Finset.univ (fun (ck : Dev nD × Fin 3) (κ : ℕ) => (cellInv EX (plan m ρ) κ (cellAt ck) : sProp 𝕄))) $$ HI
  icases HK with ⟨%K, #HI⟩
  ihave HT' := (tokens_across (F := F)) $$ HT
  have hdeal : iprop(known m ρ K ∗ bigSep Finset.univ fun c : Dev nD =>
      iprop((bigSep Finset.univ fun k : Fin 3 => (atPos EX (cellAt (c, k)) 0 ∅ 0 : sProp 𝕄)) ∗ payTokens c)) ⊢ bigSep Finset.univ (G' m ρ) :=
    (sep_mono_left (BI.bigSep_of_persistent Finset.univ (known m ρ K))).trans (by rw [← bigSep_sep']; exact bigSep_mono fun c _ => deal_one m ρ K c)
  iapply hdeal
  isplitr
  · unfold known; isplitl; · iexact HI
    iexact HR
  · rw [bigSep_sep']
    isplitl [HA] <;> iassumption

/-- The whole step, for all devices under one update. -/
theorem make_all : (bigSep Finset.univ fun c => iprop(Pipeline.ownSems0 (Ix := Unit) (Name := ℕ) (U := XU) (Lvl := ℕ) (Val := Elt F) (τ := τ) ownSem c ∗ unscopedSems0 c ∗ G m ρ c) : sProp 𝕄)
    ⊢ |={Set.univ}=> bigSep Finset.univ (G' m ρ) :=
  ((bigSep_mono fun c _ => alloc_one m ρ c).trans (bigSep_fupd _ _)).trans (BI.fupd_mono (deal_all m ρ))

/-! ## The credit at launch -/

theorem cell_dev {a b : Dev nD} {s : SemLoc sig} (h : (((a : Thread nD τ), s) : GSem nD τ sig) = ((b : Thread nD τ), s)) : a = b :=
  Fin.ext (congrArg (fun g : GSem nD τ sig => g.1.1.val) h)

/-- What device `d` owes a barrier cell: one unit, if it is its peer's. -/
theorem debt_bar (d c : Dev nD) : debt d (barC c) () = if d = peer c then 1 else 0 := by
  unfold debt
  rw [Pi.add_apply, Finsupp.add_apply, tallyAt_ne_cell (fun h => rcv_ne_bar (congrArg Prod.snd h).symm), tallyAt_apply, Finsupp.zero_apply, Nat.zero_add]
  by_cases h : d = peer c
  · subst h; rw [peer_peer, if_pos ⟨rfl, rfl⟩, if_pos rfl]
  · rw [if_neg (fun h' => h (by rw [cell_dev h'.1, peer_peer])), if_neg h]
/-- What it owes a receive cell: one copy's credit, if it is its peer's. -/
theorem debt_rcv (d c : Dev nD) : debt d (rcvC c) () = if d = peer c then credit else 0 := by
  unfold debt
  rw [Pi.add_apply, Finsupp.add_apply, tallyAt_apply, tallyAt_ne_cell (fun h => rcv_ne_bar (congrArg Prod.snd h)), Finsupp.zero_apply, Nat.add_zero]
  by_cases h : d = peer c
  · subst h; rw [peer_peer, if_pos ⟨rfl, rfl⟩, if_pos rfl]
  · rw [if_neg (fun h' => h (by rw [cell_dev h'.1, peer_peer])), if_neg h]

theorem launch_bar (c : Dev nD) :
    tallyOn (barC c) (launchCredit (Pipeline.owing debt) 0 (barC c)) = (tallyAt (barC c) () 1 : CellTallies nD τ sig Unit) := by
  unfold tallyAt; refine congrArg _ (Finsupp.ext fun u => ?_); cases u
  rw [Pipeline.launchCredit_owing, Finsupp.single_eq_same, Finset.sum_congr rfl fun d _ => debt_bar d c, Finset.sum_ite_eq' Finset.univ (peer c) fun _ => 1,
    if_pos (Finset.mem_univ _)]
theorem launch_rcv (c : Dev nD) :
    tallyOn (rcvC c) (launchCredit (Pipeline.owing debt) 0 (rcvC c)) = (tallyAt (rcvC c) () credit : CellTallies nD τ sig Unit) := by
  unfold tallyAt; refine congrArg _ (Finsupp.ext fun u => ?_); cases u
  rw [Pipeline.launchCredit_owing, Finsupp.single_eq_same, Finset.sum_congr rfl fun d _ => debt_rcv d c, Finset.sum_ite_eq' Finset.univ (peer c) fun _ => credit,
    if_pos (Finset.mem_univ _)]

omit [FloatOps F] in
/-- A device's launch credit is that of its barrier's unit and of its receive cell's copy. -/
theorem credits (c : Dev nD) :
    (Pipeline.launchCred debt c : sProp 𝕄) ⊢ iprop(cred (tallyAt (barC c) () 1) ∗ cred (tallyAt (rcvC c) () credit)) := by
  unfold Pipeline.launchCred
  rw [bigSep_univ_at _ (SemLoc.reg barS), launch_bar]
  refine sep_mono_right ?_
  rw [← launch_rcv]
  exact bigSep_elim (Finset.mem_erase.mpr ⟨rcv_ne_bar, Finset.mem_univ _⟩)

/-! ## The run -/

theorem start_intro (c : Dev nD) :
    iprop(Pipeline.unscopedRestP Pipeline.Prefetch.none cfg0.spec c (fun b => m ((c : Thread nD τ).loc b)) ∗ levAts names level
        ∗ Pipeline.launchCred debt c ∗ prngReg c (ρ c) ∗ G' m ρ c)
      ⊢ |={Set.univ}=> iprop(start m ρ c ∗ emp) := by
  iintro ⟨-, HL, HC, -, HG⟩
  ihave HC' := (credits (F := F) c) $$ HC
  icases HC' with ⟨CB, CR⟩
  imodintro
  unfold start G'
  isplitl
  · isplitl [HG]; · iexact HG
    isplitl [CB]; · iexact CB
    isplitl [CR] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = behind c from rfl, scopedRest0_eq, ownSems_eq, barrierSem_eq]
  unfold behind
  iintro ⟨Hr, ZS, ZR, ZB⟩
  isplitl [ZB]; · iexact ZB
  isplitl [ZS ZR]
  · isplitl [ZS] <;> iassumption
  iexact Hr

theorem waits (c : Dev nD) : (levAts names level : sProp 𝕄) ⊢ Pipeline.cellsWaits cfgs (dats m ρ) () 0 c :=
  Pipeline.cellsWaits_intro cfgs (dats m ρ) () 0 c fun w s t =>
    wait_staging c _ (by fin_cases w <;> fin_cases s <;> decide) _ (by
      rcases t with ⟨_ | _, ht⟩
      · exact Or.inl rfl
      · exact Or.inr rfl)

/-- A window's array after the run. -/
def finalArr (c : Dev nD) (w : Fin cfg0.W) : Buf (Elt F) ((cfg0.win w).arr.view.loc (c : Thread nD τ)) := (dats m ρ 0 c).arrAt w cfg0.N

set_option maxRecDepth 8000 in
/-- From any memory with zero counters every execution ends, with each device's arrays as computed and every counter at zero. -/
theorem run_arrays : θ_run defs (onTc (τ := τ) (main (F := F))) (start₀ m ρ) (fun r =>
    (∀ c : Dev nD, ∀ w : Fin cfg0.W, r.2.mem ((cfg0.win w).arr.view.loc (c : Thread nD τ)) = finalArr m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := debt) (howed₀ := fun _ => rfl) (howedN := fun _ => rfl)
    (L := names) (lv := level) (hL := names_other) (hwaits := waits m ρ)
    (G := G m ρ) (G' := G' m ρ) (u₀ := u₀)
    (hu₀ := by
      unfold u₀
      iintro H
      ihave H' := (ownU_pair _ _) $$ H
      icases H' with ⟨HP, HX⟩
      imod (fund_all m ρ) $$ HX with HG
      imodintro
      isplitl [HP] <;> iassumption)
    (hglob := make_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The columns' array ends as it began, -/
theorem final_in (c : Dev nD) : finalArr m ρ c (0 : Fin 2) = m ((c : Thread nD τ).loc main_arg0) :=
  (dats (F := F) m ρ 0 c).arrAt_in (0 : Fin 2) rfl _

/-- the one staged block of the columns is the device's whole argument, -/
theorem colsOf_eq (c : Dev nD) : colsOf m ρ c = m ((c : Thread nD τ).loc main_arg0) :=
  Memref.read_access_unit_zero (Elt F) main_arg0 (off := fun a => (win0_0.index t0_0) a * main_arg0.ty.shape.size a)
    (funext fun a => by fin_cases a <;> decide) (fun a => by fin_cases a <;> decide) _

/-- and the result array ends holding the body's result. -/
theorem final_out (c : Dev nD) : finalArr m ρ c (1 : Fin 2) = resultOf m ρ c := by
  have h : ((cfg0.win 1).blk t0_0).view.read (Elt F) (finalArr m ρ c 1) = (dats m ρ 0 c).flushed 1 t0_0 := by
    unfold finalArr
    rw [show cfg0.N = t0_0.val + 1 from rfl, (dats m ρ 0 c).arrAt_succ (1 : Fin 2) t0_0, flush0_1, if_pos rfl]
    exact View.read_write_univ _ _
  have hf : (dats m ρ 0 c).flushed 1 t0_0 = resultOf m ρ c := funext fun _ => rfl
  have hr : (win0_1.blk t0_0).view.read (Elt F) (finalArr m ρ c 1) = finalArr m ρ c 1 :=
    Memref.read_access_unit_zero (Elt F) main_v1 (off := fun a => (win0_1.index t0_0) a * main_v1.ty.shape.size a)
      (funext fun a => by fin_cases a <;> decide) (fun a => by fin_cases a <;> decide) _
  exact hr.symm.trans (h.trans hf)

/-- The run, read at the program's argument and result. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v1)
          = merged (best (m ((c.tc : Thread nD τ).loc main_arg0))) (best (m (((peer c).tc : Thread nD τ).loc main_arg0))))
    ∧ r.2.sem = fun _ => 0) :=
  (θ_run _ _ _).mono (fun r h => ⟨fun c => ⟨(h.1 c 0).trans (final_in m ρ c),
    (h.1 c 1).trans ((final_out m ρ c).trans (by
      unfold resultOf mine
      rw [colsOf_eq, colsOf_eq]))⟩, h.2⟩) (run_arrays m ρ)

end Cert.KernelIdeal.Exchange

end
-- ==== Proof.KernelIdealRows.lean ====
/- What the body computes, as recursions: the sixteen candidates of a device's own columns are a chain of maxima, each
   over the entries strictly below the last, and the merge is sixteen rounds that read off a row's largest entry and put
   -inf in the first place where it stands. -/
module

public import proofs.«01_k».proof.Proof.KernelIdealExchange

@[expose] public section

noncomputable section

namespace Cert.KernelIdeal.Rows

open Cert.KernelIdeal Cert.KernelIdeal.Gen Cert.KernelIdeal.Exchange
open Idealize.ShloMosaic

variable {F : FTy → Type} [FloatOps F]

/-- The largest entry of every row of a device's columns. -/
def maxOwn (x : FVec F S512x4096 .f32) : FVec F S512x1 .f32 :=
  shapeCast S512x1 (multiReduction .maximumf [1] S512 x 0xFF800000#32 reduces_S512x4096_S512 (.inl rfl) rfl) shapeCasts_S512_S512x1

/-- The entries strictly below `v` in their row, -inf elsewhere. -/
def below (x : FVec F S512x4096 .f32) (v : FVec F S512x1 .f32) : FVec F S512x4096 .f32 :=
  select (cmpf .olt x (broadcastTo S512x4096 v broadcasts_S512x1_S512x4096)) x
    (broadcast S512x4096 (Scalar.ofBits .f32 0xFF800000#32))

/-- The chain of maxima of a device's columns. -/
def maxima (x : FVec F S512x4096 .f32) : ℕ → FVec F S512x1 .f32
  | 0 => maxOwn x
  | i + 1 => maxOwn (below x (maxima x i))

/-- A column written into lane `k` of the sixteen. -/
def put (k : BitVec 32) (v : FVec F S512x1 .f32) (acc : FVec F S512x16 .f32) : FVec F S512x16 .f32 :=
  select (cmpi .eq (iota .tc S512x16 32 [1] iota_S512x16_d1_w32) (broadcast S512x16 k))
    (broadcastTo S512x16 (shapeCast S512x1 v shapeCasts_S512x1_S512x1) broadcasts_S512x1_S512x16) acc

/-- The columns `v 0`, …, `v i` in lanes `0`, …, `i`. -/
def lanes (v : ℕ → FVec F S512x1 .f32) : ℕ → FVec F S512x16 .f32
  | 0 => put 0#32 (v 0) (broadcast S512x16 (Scalar.ofBits .f32 0x00000000#32))
  | i + 1 => put (BitVec.ofNat 32 (i + 1)) (v (i + 1)) (lanes v i)

/-- The two slots side by side. -/
def joined (a b : Vec F S1x512x16 .f32) : FVec F S512x32 .f32 :=
  concatenate S512x32 1 [⟨S512x16, shapeCast S512x16 a shapeCasts_S1x512x16_S512x16⟩,
    ⟨S512x16, shapeCast S512x16 b shapeCasts_S1x512x16_S512x16⟩] concatenates_S512x16_S512x16_S512x32_d1

/-- The largest entry of every row of the thirty-two. -/
def maxBoth (w : FVec F S512x32 .f32) : FVec F S512x1 .f32 :=
  shapeCast S512x1 (multiReduction .maximumf [1] S512 w 0xFF800000#32 reduces_S512x32_S512 (.inl rfl) rfl) shapeCasts_S512_S512x1

/-- The first place where a row's largest entry stands. -/
def firstAt (w : FVec F S512x32 .f32) : IVec S512 32 :=
  multiReductionI .minsi [1] S512
    (select (cmpf .oeq w (broadcastTo S512x32 (maxBoth w) broadcasts_S512x1_S512x32)) (iota .tc S512x32 32 [1] iota_S512x32_d1_w32)
      (broadcast S512x32 32#32)) 2147483647#32 reduces_S512x32_S512 rfl

/-- -inf put there. -/
def strike (w : FVec F S512x32 .f32) : FVec F S512x32 .f32 :=
  select (cmpi .eq (iota .tc S512x32 32 [1] iota_S512x32_d1_w32)
      (broadcastTo S512x32 (shapeCast S512x1 (firstAt w) shapeCasts_S512_S512x1) broadcasts_S512x1_S512x32))
    (broadcast S512x32 (Scalar.ofBits .f32 0xFF800000#32)) w

/-- The rounds of the merge. -/
def rounds (w : FVec F S512x32 .f32) : ℕ → FVec F S512x32 .f32
  | 0 => w
  | i + 1 => strike (rounds w i)

/-- The candidates are the chain's first sixteen maxima, lane by lane. -/
theorem best_eq (x : Vec F S512x4096 .f32) :
    best x = shapeCast S1x512x16 (lanes (maxima (shapeCast S512x4096 x shapeCasts_S512x4096_S512x4096)) 15)
      shapeCasts_S512x16_S1x512x16 := rfl

/-- The merge is the rounds' first sixteen maxima, lane by lane. -/
theorem merged_eq (a b : Vec F S1x512x16 .f32) :
    merged a b = lanes (fun i => maxBoth (rounds (joined a b) i)) 15 := rfl

end Cert.KernelIdeal.Rows

end
-- ==== Proof.TopRows.lean ====
/- The k largest entries of a row, as mathematics: rows are functions on `Fin n` with values in a linear order with a
   least element, and the k largest are `SortNet.topList`. Nothing here speaks of a program. -/
module

public import Idealize.ShloMosaic.Lib.SortNet.TopList
public import Mathlib.Data.List.FinRange
public import Mathlib.Data.Finset.Lattice.Fold
public import Mathlib.Data.Fintype.Sum
public import Mathlib.Data.Fintype.Card
public import Mathlib.Data.Fintype.Basic

@[expose] public section

namespace Cert.TopRows

open Idealize.ShloMosaic.SortNet

variable {α : Type} [LinearOrder α] {n : ℕ}

/-- `g` is the row `f` put in descending order. -/
def Desc (f g : Fin n → α) : Prop := Antitone g ∧ ∃ e : Equiv.Perm (Fin n), ∀ q, g q = f (e q)

/-- The k largest of a row are the first k of its descending arrangement. -/
theorem topList_of_desc {f g : Fin n → α} (h : Desc f g) (k : ℕ) (hk : k ≤ n) :
    topList k (List.ofFn f) = List.ofFn fun i : Fin k => g ⟨i.val, lt_of_lt_of_le i.isLt hk⟩ := by
  obtain ⟨hg, e, he⟩ := h
  have hs : (List.ofFn f).insertionSort (· ≥ ·) = List.ofFn g := by
    refine eq_of_perm_of_descending ((List.perm_insertionSort _ _).trans ?_) (List.pairwise_insertionSort _ _) ?_
    · have : g = f ∘ e := funext he
      rw [this]; exact (Equiv.Perm.ofFn_comp_perm e f).symm
    · rw [List.pairwise_ofFn]; exact fun i j hij => hg hij.le
  unfold topList
  rw [hs]
  refine List.ext_getElem (by simp [hk]) fun i h1 h2 => ?_
  simp

variable [OrderBot α]

/-- The chain of maxima: the largest entry, then again and again the largest entry strictly below the last one. -/
def chain (f : Fin n → α) : ℕ → α
  | 0 => Finset.univ.sup f
  | i + 1 => Finset.univ.sup fun j => if f j < chain f i then f j else ⊥

/-- When the descending arrangement falls strictly (or has reached the least element) over its first k entries, the
    chain of maxima runs along it. -/
theorem chain_eq {f g : Fin n → α} (h : Desc f g) (k : ℕ) (hk : k ≤ n)
    (hgap : ∀ i (hi : i + 1 < k), g ⟨i + 1, by omega⟩ < g ⟨i, by omega⟩ ∨ g ⟨i + 1, by omega⟩ = ⊥) :
    ∀ i (hi : i < k), chain f i = g ⟨i, by omega⟩ := by
  obtain ⟨hg, e, he⟩ := h
  have hf : ∀ j, f j = g (e.symm j) := fun j => by rw [he, Equiv.apply_symm_apply]
  intro i
  induction i with
  | zero =>
    intro hi
    refine le_antisymm (Finset.sup_le fun j _ => ?_) ?_
    · rw [hf]; exact hg (Fin.mk_le_of_le_val (Nat.zero_le _))
    · rw [he]; exact Finset.le_sup (f := f) (Finset.mem_univ _)
  | succ i ih =>
    intro hi
    rw [chain, ih (by omega)]
    refine le_antisymm (Finset.sup_le fun j _ => ?_) ?_
    · split
      · rename_i hlt
        rw [hf] at hlt ⊢
        refine hg ?_
        rw [Fin.le_def]
        by_contra hle
        exact absurd (hg (show e.symm j ≤ ⟨i, by omega⟩ from by rw [Fin.le_def]; show _ ≤ i; simp only at hle; omega)) (not_le.mpr hlt)
      · exact bot_le
    · rcases hgap i hi with hlt | hbot
      · have := Finset.le_sup (f := fun j => if f j < g ⟨i, by omega⟩ then f j else ⊥) (Finset.mem_univ (e ⟨i + 1, by omega⟩))
        simp only [← he, if_pos hlt] at this
        exact this
      · rw [hbot]; exact bot_le

/-- Taking one largest entry out of a row of at least k + 1 leaves the others of its k + 1 largest. -/
theorem topList_step {w w' : Fin n → α} (p : Fin n) (hp : w p = Finset.univ.sup w) (hw : w' = Function.update w p ⊥)
    (k : ℕ) (hk : k + 1 ≤ n) :
    topList (k + 1) (List.ofFn w) = Finset.univ.sup w :: topList k (List.ofFn w') := by
  set rest := ((List.finRange n).erase p).map w with hrest
  have hfin : (List.finRange n).Perm (p :: (List.finRange n).erase p) := List.perm_cons_erase (List.mem_finRange p)
  have hlen : rest.length = n - 1 := by
    rw [hrest, List.length_map, List.length_erase_of_mem (List.mem_finRange p), List.length_finRange]
  have h1 : (List.ofFn w).Perm (w p :: rest) := by rw [List.ofFn_eq_map]; exact hfin.map w
  have h2 : (List.ofFn w').Perm (⊥ :: rest) := by
    rw [List.ofFn_eq_map]
    refine (hfin.map w').trans ?_
    rw [List.map_cons, hw, Function.update_self, hrest]
    refine List.Perm.cons _ (List.Perm.of_eq (List.map_congr_left fun q hq => ?_))
    have : q ≠ p := ((List.nodup_finRange n).mem_erase_iff.mp hq).1
    rw [Function.update_of_ne this]
  have htop : ∀ b ∈ rest, b ≤ w p := by
    intro b hb
    obtain ⟨q, _, rfl⟩ := List.mem_map.mp hb
    rw [hp]; exact Finset.le_sup (f := w) (Finset.mem_univ q)
  have h3 : topList k (⊥ :: rest) = topList k rest := by
    rw [topList_perm (show (⊥ :: rest).Perm (rest ++ [⊥]) from List.perm_append_comm (l₁ := [⊥]) (l₂ := rest))]
    exact topList_append_of_le k rest [⊥] (by omega) fun s hs a _ => by
      rw [List.mem_singleton.mp hs]; exact bot_le
  have h4 : (w p :: rest).insertionSort (· ≥ ·) = w p :: rest.insertionSort (· ≥ ·) := by
    refine eq_of_perm_of_descending ((List.perm_insertionSort _ _).trans ((List.perm_insertionSort _ _).symm.cons _))
      (List.pairwise_insertionSort _ _) (List.pairwise_cons.mpr ⟨fun b hb => ?_, List.pairwise_insertionSort _ _⟩)
    exact htop b ((List.mem_insertionSort _).mp hb)
  rw [topList_perm h1, topList_perm h2, h3, ← hp]
  unfold topList
  rw [h4, List.take_succ_cons]

/-- Rounds that each read off the largest entry and put the least element in one place where it stands list the k
    largest entries. -/
theorem topList_rounds (k : ℕ) (hk : k ≤ n) (w : ℕ → Fin n → α)
    (hw : ∀ i, i + 1 < k → ∃ p, w i p = Finset.univ.sup (w i) ∧ w (i + 1) = Function.update (w i) p ⊥) :
    topList k (List.ofFn (w 0)) = List.ofFn fun i : Fin k => Finset.univ.sup (w i) := by
  suffices H : ∀ k, k ≤ n → ∀ w : ℕ → Fin n → α,
      (∀ i, i + 1 < k → ∃ p, w i p = Finset.univ.sup (w i) ∧ w (i + 1) = Function.update (w i) p ⊥) →
      topList k (List.ofFn (w 0)) = List.ofFn fun i : Fin k => Finset.univ.sup (w i) from H k hk w hw
  clear hw w hk k
  intro k
  induction k with
  | zero => intro _ w _; simp [topList]
  | succ k ih =>
    intro hk w hw
    rw [List.ofFn_succ]
    rcases Nat.eq_zero_or_pos k with rfl | hpos
    · obtain ⟨p, -, hp⟩ := Finset.exists_mem_eq_sup (Finset.univ : Finset (Fin n)) ⟨⟨0, by omega⟩, Finset.mem_univ _⟩ (w 0)
      rw [topList_step p hp.symm rfl 0 hk]
      simp [topList]
    · obtain ⟨p, hp, hw1⟩ := hw 0 (by omega)
      rw [topList_step p hp hw1 k hk, ih (by omega) (fun i => w (i + 1)) fun i hi => hw (i + 1) (by omega)]
      rfl

/-- The k largest of a row in two halves come from the k largest of each half, whichever half is given first. -/
theorem topList_halves (k : ℕ) {l : ℕ} (f : Fin n → α) (a b : Fin l → α) (e : Fin l ⊕ Fin l ≃ Fin n)
    (ha : ∀ j, a j = f (e (.inl j))) (hb : ∀ j, b j = f (e (.inr j))) :
    topList k (topList k (List.ofFn a) ++ topList k (List.ofFn b)) = topList k (List.ofFn f) := by
  rw [topList_append_topList_topList]
  refine topList_perm ?_
  rw [← Multiset.coe_eq_coe, ← Multiset.coe_add]
  have hm : ∀ {p : ℕ} (h : Fin p → α), ((List.ofFn h : List α) : Multiset α) = (Finset.univ : Finset (Fin p)).val.map h := by
    intro p h; rw [List.ofFn_eq_map]; rfl
  rw [hm, hm, hm, show a = (fun x => f (e x)) ∘ Sum.inl from funext ha, show b = (fun x => f (e x)) ∘ Sum.inr from funext hb]
  have hu : (Finset.univ : Finset (Fin n)) = Finset.univ.map e.toEmbedding := (Finset.univ_map_equiv_to_embedding e).symm
  rw [hu, Finset.map_val, Multiset.map_map, ← Finset.univ_disjSum_univ, Finset.val_disjSum]
  simp [Multiset.disjSum, Multiset.map_add, Multiset.map_map, Function.comp_def]

end Cert.TopRows
-- ==== Proof.KernelIdealRead.lean ====
/- The recursions of KernelIdealRows.lean read over the extended reals, row by row: the candidates are `TopRows.chain` of
   the device's row, and the merge lists the sixteen largest of the two slots' rows together. -/
module

public import proofs.«01_k».proof.Proof.KernelIdealRows
public import proofs.«01_k».proof.Proof.TopRows
public import Idealize.ShloMosaic.Lib.Pointwise
public import Idealize.ShloMosaic.Lib.Pipeline.Value

@[expose] public section

noncomputable section

namespace Cert.KernelIdeal.Rows

open Cert.KernelIdeal Cert.KernelIdeal.Gen Cert.KernelIdeal.Exchange
open Idealize.ShloMosaic
open Idealize.ShloMosaic.SortNet (topList)

/-- The bit pattern of -inf is the least extended real. -/
theorem lowest : Ideal.ofBits FTy.f32 4286578688#32 = (⊥ : EReal) := by
  simp [Ideal.ofBits, Ideal.ieee]

/-- A truth value's bit is set when it is true. -/
theorem bit_one : ∀ b : Bool, BitVec.ofBool b = 1#1 ↔ b = true := by decide

/-- Row `r` of an array of 512 rows. -/
def row {n : ℕ} (x : FVec Ideal ⟨2, ![512, n]⟩ .f32) (r : Fin 512) : Fin n → EReal := fun j => x (ix2 r j)

/-- A maximum over the columns is the row's supremum. -/
theorem maxOwn_apply (x : FVec Ideal S512x4096 .f32) (r : Fin 512) :
    maxOwn x (ix2 r 0) = Finset.univ.sup (row x r) := by
  unfold maxOwn
  pointwise
  rw [lowest]; rfl

/-- Likewise for the thirty-two. -/
theorem maxBoth_apply (w : FVec Ideal S512x32 .f32) (r : Fin 512) :
    maxBoth w (ix2 r 0) = Finset.univ.sup (row w r) := by
  unfold maxBoth
  pointwise
  rw [lowest]; rfl

/-- The entries strictly below the row's bound. -/
theorem below_apply (x : FVec Ideal S512x4096 .f32) (v : FVec Ideal S512x1 .f32) (r : Fin 512) :
    row (below x v) r = fun j => if row x r j < v (ix2 r 0) then row x r j else ⊥ := by
  funext j
  unfold row below
  pointwise
  rw [lowest]

/-- The kernel's chain is the chain of maxima of the row. -/
theorem maxima_apply (x : FVec Ideal S512x4096 .f32) (r : Fin 512) (i : ℕ) :
    maxima x i (ix2 r 0) = TopRows.chain (row x r) i := by
  induction i with
  | zero => exact maxOwn_apply x r
  | succ i ih =>
    show maxOwn (below x (maxima x i)) (ix2 r 0) = _
    rw [maxOwn_apply, below_apply, ih]; rfl

/-- A column written into a lane shows there and nowhere else. -/
theorem put_apply (k : BitVec 32) (v : FVec Ideal S512x1 .f32) (acc : FVec Ideal S512x16 .f32) (r : Fin 512) (l : Fin 16) :
    put k v acc (ix2 r l) = if BitVec.ofNat 32 l.val = k then v (ix2 r 0) else acc (ix2 r l) := by
  unfold put
  pointwise
  simp [Scalar.select, IntOp.cmpi, bit_one]

/-- Two small numbers have the same word only if they are equal. -/
theorem word_inj {a b : ℕ} (ha : a < 100) (hb : b < 100) : BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

/-- Every lane up to `i` shows its own column. -/
theorem lanes_apply (v : ℕ → FVec Ideal S512x1 .f32) (r : Fin 512) (l : Fin 16) (i : ℕ) (hi : i < 16) (hl : l.val ≤ i) :
    lanes v i (ix2 r l) = v l.val (ix2 r 0) := by
  induction i with
  | zero =>
    have h0 : l.val = 0 := by omega
    rw [lanes, put_apply, h0, if_pos rfl]
  | succ i ih =>
    rw [lanes, put_apply]
    by_cases h : l.val = i + 1
    · rw [h, if_pos rfl]
    · rw [if_neg (fun e => h ((word_inj (by omega) (by omega)).mp e)), ih (by omega) (by omega)]

/-- So all sixteen lanes are read. -/
theorem row_lanes (v : ℕ → FVec Ideal S512x1 .f32) (r : Fin 512) : row (lanes v 15) r = fun l => v l.val (ix2 r 0) := by
  funext l
  exact lanes_apply v r l 15 (by omega) (by omega)

/-- The row of the two slots together is the one slot's row followed by the other's. -/
theorem joined_row (a b : FVec Ideal S1x512x16 .f32) (r : Fin 512) :
    List.ofFn (row (joined a b) r) = List.ofFn (fun l : Fin 16 => a (ix3 0 r l)) ++ List.ofFn fun l : Fin 16 => b (ix3 0 r l) := by
  rw [← List.ofFn_fin_append]
  refine congrArg List.ofFn (funext fun j : Fin 32 => ?_)
  have hcast : ∀ (y : FVec Ideal S1x512x16 .f32) (l : Fin 16),
      (shapeCast S512x16 y shapeCasts_S1x512x16_S512x16 : FVec Ideal S512x16 .f32) (ix2 r l) = y (ix3 0 r l) := fun y l =>
    shapeCast_apply y _ _ _ (by
      rw [Shape.rowMajor_val_two, Shape.rowMajor_val_three]
      show (0 * 512 + r.val) * 16 + l.val = r.val * 16 + l.val
      omega)
  show joined (F := Ideal) a b (ix2 r j) = _
  unfold joined
  by_cases h : j.val < 16
  · obtain ⟨l, rfl⟩ : ∃ l : Fin 16, j = Fin.castAdd 16 l := ⟨⟨j.val, h⟩, Fin.ext rfl⟩
    rw [Fin.append_left, ← hcast a l]
    exact concatenate_pair_apply_left (t := S512x32) (s₁ := S512x16) (s₂ := S512x16) 1 _ _
      concatenates_S512x16_S512x16_S512x32_d1 (ix2 r (Fin.castAdd 16 l)) rfl (ix2 r l) (fun c => match c with
        | ⟨0, _⟩ => rfl
        | ⟨1, _⟩ => rfl)
  · obtain ⟨l, rfl⟩ : ∃ l : Fin 16, j = Fin.natAdd 16 l := ⟨⟨j.val - 16, by omega⟩, Fin.ext (by simp; omega)⟩
    rw [Fin.append_right, ← hcast b l]
    exact concatenate_pair_apply_right (t := S512x32) (s₁ := S512x16) (s₂ := S512x16) 1 _ _
      concatenates_S512x16_S512x16_S512x32_d1 (ix2 r (Fin.natAdd 16 l)) rfl rfl (ix2 r l) (fun c hc => match c, hc with
        | ⟨0, _⟩, _ => rfl
        | ⟨1, _⟩, hc => absurd rfl hc)
      (by show l.val + 16 = 16 + l.val; omega)

/-- A smallest word over a family that contains a smaller word than the start is one of the family, and is at most all of them. -/
theorem fold_minsi {n : ℕ} (s : Finset (Fin n)) (b : BitVec 32) (f : Fin n → BitVec 32) :
    (s.fold IntOp.minsi b f = b ∨ ∃ k, s.fold IntOp.minsi b f = f k) ∧ ∀ k ∈ s, (s.fold IntOp.minsi b f).toInt ≤ (f k).toInt := by
  have hmin : ∀ x y : BitVec 32, (IntOp.minsi x y = x ∨ IntOp.minsi x y = y) ∧ (IntOp.minsi x y).toInt ≤ x.toInt ∧ (IntOp.minsi x y).toInt ≤ y.toInt := by
    intro x y
    simp only [IntOp.minsi, BitVec.slt, decide_eq_true_eq]
    split_ifs <;> simp <;> omega
  classical
  induction s using Finset.induction_on with
  | empty => simp
  | insert a s ha ih =>
    rw [Finset.fold_insert ha]
    obtain ⟨h1, h2, h3⟩ := hmin (f a) (s.fold IntOp.minsi b f)
    refine ⟨?_, fun k hk => ?_⟩
    · rcases h1 with h | h
      · exact .inr ⟨a, h⟩
      · rw [h]; exact ih.1
    · rcases Finset.mem_insert.mp hk with rfl | hk
      · exact h2
      · exact h3.trans (ih.2 k hk)

/-- The place a round strikes holds the row's largest entry. -/
theorem firstAt_spec (w : FVec Ideal S512x32 .f32) (r : Fin 512) :
    ∃ p : Fin 32, firstAt w (ix1 r) = BitVec.ofNat 32 p.val ∧ row w r p = Finset.univ.sup (row w r) := by
  have e : firstAt w (ix1 r) = Finset.univ.fold IntOp.minsi 2147483647#32
      (fun j : Fin 32 => if row w r j = Finset.univ.sup (row w r) then BitVec.ofNat 32 j.val else 32#32) := by
    have h := maxBoth_apply w r
    unfold firstAt
    generalize maxBoth w = z at h ⊢
    pointwise
    rw [← h]; rfl
  obtain ⟨h1, h2⟩ := fold_minsi Finset.univ 2147483647#32
    (fun j : Fin 32 => if row w r j = Finset.univ.sup (row w r) then BitVec.ofNat 32 j.val else 32#32)
  rw [← e] at h1 h2
  obtain ⟨q, -, hq⟩ := Finset.exists_mem_eq_sup (Finset.univ : Finset (Fin 32)) ⟨0, Finset.mem_univ _⟩ (row w r)
  have hs : ∀ j : Fin 32, (BitVec.ofNat 32 j.val).toInt = (j.val : ℤ) := by decide
  have hle : (firstAt w (ix1 r)).toInt ≤ 31 := by
    have := h2 q (Finset.mem_univ _)
    rw [if_pos hq.symm, hs] at this
    have := q.isLt; omega
  rcases h1 with h | ⟨k, hk⟩
  · rw [h] at hle; exact absurd hle (by decide)
  · by_cases hm : row w r k = Finset.univ.sup (row w r)
    · exact ⟨k, by rw [hk, if_pos hm], hm⟩
    · rw [hk, if_neg hm] at hle; exact absurd hle (by decide)

/-- A round puts -inf in that place and keeps the rest. -/
theorem strike_row (w : FVec Ideal S512x32 .f32) (r : Fin 512) :
    ∃ p : Fin 32, row w r p = Finset.univ.sup (row w r) ∧ row (strike w) r = Function.update (row w r) p ⊥ := by
  obtain ⟨p, hp, hw⟩ := firstAt_spec w r
  refine ⟨p, hw, funext fun j => ?_⟩
  have e : row (strike w) r j = if BitVec.ofNat 32 j.val = firstAt w (ix1 r) then (⊥ : EReal) else row w r j := by
    unfold row strike
    generalize firstAt w = z
    pointwise
    rw [lowest]
    simp [Scalar.select, IntOp.cmpi, bit_one]
  rw [e, hp, Function.update_apply]
  by_cases h : j = p
  · rw [if_pos h, if_pos (by rw [h])]
  · rw [if_neg h, if_neg (fun e => h (Fin.ext ((word_inj (by omega) (by omega)).mp e)))]

/-- The merge lists the sixteen largest entries of the two slots' rows together. -/
theorem merged_row (a b : FVec Ideal S1x512x16 .f32) (r : Fin 512) :
    List.ofFn (row (merged a b) r)
      = topList 16 (List.ofFn (fun l : Fin 16 => a (ix3 0 r l)) ++ List.ofFn fun l : Fin 16 => b (ix3 0 r l)) := by
  rw [merged_eq, row_lanes, ← joined_row]
  rw [show row (joined a b) r = (fun i => row (rounds (joined a b) i) r) 0 from rfl,
    TopRows.topList_rounds 16 (by omega) (fun i => row (rounds (joined a b) i) r) fun i _ => strike_row (rounds (joined a b) i) r]
  exact congrArg List.ofFn (funext fun l : Fin 16 => maxBoth_apply _ r)

/-- The candidates of a row are its chain of maxima. -/
theorem best_row (x : FVec Ideal S512x4096 .f32) (r : Fin 512) (l : Fin 16) :
    best (F := Ideal) x (ix3 0 r l) = TopRows.chain (row x r) l.val := by
  rw [best_eq, ← maxima_apply]
  have hc : (shapeCast S512x4096 x shapeCasts_S512x4096_S512x4096 : FVec Ideal S512x4096 .f32) = x := by
    funext i; exact shapeCast_apply x _ i i rfl
  rw [hc]
  refine (shapeCast_apply _ _ _ (ix2 r l) ?_).trans (lanes_apply (maxima x) r l 15 (by omega) (by omega))
  rw [Shape.rowMajor_val_two, Shape.rowMajor_val_three]
  show r.val * 16 + l.val = (0 * 512 + r.val) * 16 + l.val
  omega

/-- On a row whose descending arrangement falls strictly until it reaches -inf, over its first sixteen entries, the
    candidates are the row's sixteen largest entries. -/
theorem best_top (x : FVec Ideal S512x4096 .f32) (r : Fin 512) (g : Fin 4096 → EReal) (hg : TopRows.Desc (row x r) g)
    (hgap : ∀ i (hi : i + 1 < 16), g ⟨i + 1, by omega⟩ < g ⟨i, by omega⟩ ∨ g ⟨i + 1, by omega⟩ = ⊥) :
    List.ofFn (fun l : Fin 16 => (best (F := Ideal) x (ix3 0 r l) : EReal)) = topList 16 (List.ofFn (row x r)) := by
  rw [TopRows.topList_of_desc hg 16 (by omega)]
  refine congrArg List.ofFn (funext fun l : Fin 16 => ?_)
  rw [best_row, TopRows.chain_eq hg 16 (by omega) hgap l.val l.isLt]

end Cert.KernelIdeal.Rows

end
-- ==== Proof.SortRows.lean ====
/- Sorting over the extended reals: a stable sort by "less" puts a row in ascending order, so read backwards, or on the
   negated row, it is the descending arrangement. -/
module

public import proofs.«01_k».proof.Proof.TopRows
public import Idealize.ShloMosaic.Lib.SortFacts
public import Idealize.ShloMosaic.Lib.Pointwise
public import Idealize.ShloMosaic.PureOps.Ideal
public import Idealize.ShloMosaic.PureOps.Ideal.Laws

@[expose] public section

noncomputable section

namespace Cert.SortRows

open Idealize.ShloMosaic

variable {n : ℕ}

/-- The positions a stable sort by "less" of the keys reads its places from, as a permutation. -/
def order (f : Fin n → EReal) : Equiv.Perm (Fin n) :=
  Equiv.ofBijective (sortedFrom fun k k' => decide (f k < f k')) ⟨sortedFrom_injective _, sortedFrom_surjective _⟩

/-- Read in that order the keys ascend. -/
theorem monotone_order (f : Fin n → EReal) : Monotone fun q => f (order f q) := by
  intro i j hij
  rcases hij.lt_or_eq with h | rfl
  · have := sortedFrom_noInversion (fun k k' => decide (f k < f k')) (fun k k' => decide (f k < f k'))
      (fun a b hab => by simp only [decide_eq_true_eq, decide_eq_false_iff_not] at *; exact not_lt.mpr hab.le)
      (fun _ _ h => h)
      (fun a b c hab hbc => by simp only [decide_eq_false_iff_not, not_lt] at *; exact hbc.trans hab) i j h
    exact not_lt.mp (of_decide_eq_false this)
  · exact le_rfl

/-- Read backwards they are the descending arrangement. -/
theorem desc_rev (f : Fin n → EReal) : TopRows.Desc f fun q => f (order f q.rev) :=
  ⟨fun _ _ h => monotone_order f (Fin.rev_le_rev.mpr h), ⟨Fin.revPerm.trans (order f), fun _ => rfl⟩⟩

/-- The order of the negated keys is the descending arrangement of the keys. -/
theorem desc_neg (f : Fin n → EReal) : TopRows.Desc f fun q => f (order (fun k => -f k) q) :=
  ⟨fun _ _ h => EReal.neg_le_neg_iff.mp (monotone_order (fun k => -f k) h), ⟨order fun k => -f k, fun _ => rfl⟩⟩

/-- The comparator of a float sort, which brings zeros to one sign and unordered operands to one value before it compares,
    compares the extended reals themselves. -/
theorem less_of_canonical (a b : Ideal .f32) :
    (FloatOps.cmpfTotal .lt
        (Scalar.select (FloatOps.cmpf .une a a) (FloatOps.ofBits .f32 0x7FC00000#32)
          (Scalar.select (FloatOps.cmpf .oeq a (FloatOps.ofBits .f32 0x00000000#32)) (FloatOps.ofBits .f32 0x00000000#32) a))
        (Scalar.select (FloatOps.cmpf .une b b) (FloatOps.ofBits .f32 0x7FC00000#32)
          (Scalar.select (FloatOps.cmpf .oeq b (FloatOps.ofBits .f32 0x00000000#32)) (FloatOps.ofBits .f32 0x00000000#32) b)) == 1#1)
      = decide ((a : EReal) < b) := by
  have canon : ∀ c : Ideal .f32, Scalar.select (FloatOps.cmpf .une c c) (FloatOps.ofBits .f32 0x7FC00000#32)
      (Scalar.select (FloatOps.cmpf .oeq c (FloatOps.ofBits .f32 0x00000000#32)) (FloatOps.ofBits .f32 0x00000000#32) c) = c := by
    intro c
    simp only [Ideal.cmpf_def, Ideal.cmp]
    simp [Scalar.select]
    intro h
    by_cases hc : c = 0
    · exact hc.symm
    · simp [hc] at h
  rw [canon, canon]
  show (BitVec.ofBool (decide ((a : EReal) < b)) == 1#1) = decide ((a : EReal) < b)
  cases decide ((a : EReal) < b) <;> rfl

/-- A row of a one-operand sort along the columns is read from the sort's order of the row. -/
theorem sort_row {N M : ℕ} (cmp : Ideal .f32 → Ideal .f32 → BitVec 1) (hcmp : ∀ a b, (cmp a b == 1#1) = decide ((a : EReal) < b))
    (x : FVec Ideal ⟨2, ![N, M]⟩ .f32) (r : Fin N) (q : Fin M) :
    Host.sort ⟨2, ![N, M]⟩ 1 cmp x (ix2 r q) = x (ix2 r (order (fun j => x (ix2 r j)) q)) := by
  have along : ∀ k : Fin M, (ix2 r q).along (s := ⟨2, ![N, M]⟩) ⟨1, Nat.lt_succ_self 1⟩ k = ix2 r k := fun k => by
    funext a
    fin_cases a <;> rfl
  unfold Host.sort
  rw [dif_pos (show 1 < (⟨2, ![N, M]⟩ : Shape).rank from Nat.lt_succ_self 1)]
  refine (congrArg x (along _)).trans (congrArg (fun k => x (ix2 r k)) ?_)
  refine congrFun (congrArg sortedFrom (funext fun k => funext fun k' => ?_)) q
  rw [← hcmp]
  exact congrArg (· == 1#1) (congrArg₂ cmp (congrArg x (along k)) (congrArg x (along k')))

/-- So are the carried words of a two-operand sort whose comparator looks at the keys alone. -/
theorem sort2_row {N M : ℕ} (cmp : Ideal .f32 × BitVec 32 → Ideal .f32 × BitVec 32 → BitVec 1)
    (hcmp : ∀ a b, (cmp a b == 1#1) = decide ((a.1 : EReal) < b.1))
    (x : FVec Ideal ⟨2, ![N, M]⟩ .f32) (y : IVec ⟨2, ![N, M]⟩ 32) (r : Fin N) (q : Fin M) :
    (Host.sort2 ⟨2, ![N, M]⟩ 1 cmp x y).2 (ix2 r q) = y (ix2 r (order (fun j => x (ix2 r j)) q)) := by
  have along : ∀ k : Fin M, (ix2 r q).along (s := ⟨2, ![N, M]⟩) ⟨1, Nat.lt_succ_self 1⟩ k = ix2 r k := fun k => by
    funext a
    fin_cases a <;> rfl
  unfold Host.sort2
  rw [dif_pos (show 1 < (⟨2, ![N, M]⟩ : Shape).rank from Nat.lt_succ_self 1)]
  refine (congrArg y (along _)).trans (congrArg (fun k => y (ix2 r k)) ?_)
  refine congrFun (congrArg sortedFrom (funext fun k => funext fun k' => ?_)) q
  have h := hcmp (x (ix2 r k), y (ix2 r k)) (x (ix2 r k'), y (ix2 r k'))
  refine Eq.trans ?_ h
  exact congrArg (· == 1#1) (by rw [along, along])

/-- A conjunction of truth bits from a set bit is set exactly when every one is. -/
theorem fold_andi {ι : Type} (s : Finset ι) (f : ι → BitVec 1) :
    s.fold IntOp.andi 1#1 f = 1#1 ↔ ∀ i ∈ s, f i = 1#1 := by
  classical
  have hand : ∀ a b : BitVec 1, IntOp.andi a b = 1#1 ↔ a = 1#1 ∧ b = 1#1 := by decide
  induction s using Finset.induction_on with
  | empty => simp
  | insert a s ha ih => rw [Finset.fold_insert ha, hand, Finset.forall_mem_insert]; exact and_congr_right fun _ => ih

end Cert.SortRows

end
-- ==== Proof.Distinct.lean ====
/- The precondition read: the descending arrangement of every row of a device's columns falls strictly until it reaches
   -inf, over its first sixteen entries. -/
module

public import proofs.«01_k».proof.Pre_top16_distinct_KernelIdeal
public import proofs.«01_k».proof.Proof.SortRows
public import Idealize.ShloMosaic.Lib.Pipeline.Value

@[expose] public section

noncomputable section

namespace Cert.Distinct

open Cert.Pre_top16_distinct_KernelIdeal Idealize.ShloMosaic
open Cert.Pre_top16_distinct_KernelIdeal.Facts

variable [Facts]

/-- The sort of the precondition is by "less". -/
theorem less (a b : Ideal .f32) : (comparator_f32_d1 (F := Ideal) a b == 1#1) = decide ((a : EReal) < b) :=
  SortRows.less_of_canonical a b

/-- Where the precondition holds, neighbours among the sixteen largest entries of a row differ, unless both are -inf. -/
theorem gap (x : FVec Ideal S512x4096 .f32) (h : fn (F := Ideal) x = fun _ => 1#1) (r : Fin 512) (i : ℕ) (hi : i + 1 < 16) :
    (x (ix2 r (SortRows.order (fun j => x (ix2 r j)) (Fin.rev ⟨i + 1, by omega⟩))) : EReal)
        < x (ix2 r (SortRows.order (fun j => x (ix2 r j)) (Fin.rev ⟨i, by omega⟩)))
      ∨ (x (ix2 r (SortRows.order (fun j => x (ix2 r j)) (Fin.rev ⟨i + 1, by omega⟩))) : EReal) = ⊥ := by
  have h0 := congrFun h (fun a => a.elim0)
  unfold fn at h0
  dsimp only at h0
  rw [Host.reduce_eq_fold, show constantI S_ 1 1#1 (Shape.Idx.first h_S_) = 1#1 from rfl, SortRows.fold_andi] at h0
  have h1 := h0 (ix2 r (⟨14 - i, by omega⟩ : Fin 15)) (Finset.mem_filter.mpr ⟨Finset.mem_univ _, funext fun a => a.elim0⟩)
  clear h0 h
  have hlo : extractStridedSlice S512x15 ![0, 4080] (fn_sort (F := Ideal) x) slices_S512x4096_S512x15_0_4080 (ix2 r (⟨14 - i, by omega⟩ : Fin 15))
      = x (ix2 r (SortRows.order (fun j => x (ix2 r j)) (Fin.rev ⟨i + 1, by omega⟩))) := by
    rw [← SortRows.sort_row comparator_f32_d1 less x r]
    exact extractStridedSlice_apply (s := S512x4096) (t := S512x15) ![0, 4080] (fn_sort (F := Ideal) x) slices_S512x4096_S512x15_0_4080 (ix2 r (⟨14 - i, by omega⟩ : Fin 15)) (ix2 r _) (fun a => match a with
      | ⟨0, _⟩ => by show r.val = 0 + r.val; omega
      | ⟨1, _⟩ => by show 4096 - (i + 1 + 1) = 4080 + (14 - i); omega)
  have hhi : extractStridedSlice S512x15 ![0, 4081] (fn_sort (F := Ideal) x) slices_S512x4096_S512x15_0_4081 (ix2 r (⟨14 - i, by omega⟩ : Fin 15))
      = x (ix2 r (SortRows.order (fun j => x (ix2 r j)) (Fin.rev ⟨i, by omega⟩))) := by
    rw [← SortRows.sort_row comparator_f32_d1 less x r]
    exact extractStridedSlice_apply (s := S512x4096) (t := S512x15) ![0, 4081] (fn_sort (F := Ideal) x) slices_S512x4096_S512x15_0_4081 (ix2 r (⟨14 - i, by omega⟩ : Fin 15)) (ix2 r _) (fun a => match a with
      | ⟨0, _⟩ => by show r.val = 0 + r.val; omega
      | ⟨1, _⟩ => by show 4096 - (i + 1) = 4081 + (14 - i); omega)
  rw [← hlo, ← hhi]
  generalize fn_sort (F := Ideal) x = y at h1 ⊢
  generalize extractStridedSlice S512x15 ![0, 4080] y slices_S512x4096_S512x15_0_4080 = lo at h1 ⊢
  generalize extractStridedSlice S512x15 ![0, 4081] y slices_S512x4096_S512x15_0_4081 = hi' at h1 ⊢
  generalize (ix2 r (⟨14 - i, by omega⟩ : Fin 15)) = k at h1 ⊢
  have hor : ∀ a b : BitVec 1, IntOp.ori a b = 1#1 → a = 1#1 ∨ b = 1#1 := by decide
  have hbit : ∀ p : Prop, ∀ [Decidable p], BitVec.ofBool (decide p) = 1#1 → p := by
    intro p _ e
    by_contra hp
    rw [decide_eq_false hp] at e
    exact absurd e (by decide)
  rcases hor _ _ h1 with e | e
  · exact .inl (hbit _ e)
  · refine .inr ((hbit _ e).trans ?_)
    show Ideal.ofBits FTy.f32 4286578688#32 = (⊥ : EReal)
    simp [Ideal.ofBits, Ideal.ieee]

end Cert.Distinct

end
-- ==== Proof.ReferenceRows.lean ====
/- The reference read over the extended reals: row `r` of its result lists the sixteen largest entries of row `r` of its
   argument. The indices it sorts lie in range, so the index arithmetic of the gather changes none of them. -/
module

public import proofs.«01_k».proof.Proof.Gen.ReferenceIdeal.Read
public import proofs.«01_k».proof.Proof.SortRows

@[expose] public section

noncomputable section

namespace Cert.ReferenceIdeal.Rows

open Cert.ReferenceIdeal Cert.ReferenceIdeal.Gen Cert.ReferenceIdeal.Read Idealize.ShloMosaic
open Idealize.ShloMosaic.SortNet (topList)

/-- The sort of the reference is by "less" of its keys. -/
theorem less (a b : Ideal .f32 × BitVec 32) : (comparator_f32_i32_d1 (F := Ideal) a b == 1#1) = decide ((a.1 : EReal) < b.1) :=
  SortRows.less_of_canonical a.1 b.1

variable (x : FVec Ideal S512x8192 .f32)

/-- The place of the `l`-th largest entry of row `r`. -/
def place (r : Fin 512) (l : Fin 16) : Fin 8192 := SortRows.order (fun j => -(x (ix2 r j) : EReal)) ⟨l.val, by omega⟩

/-- The index the reference keeps is that place. -/
theorem index_eq (i : S512x16.Idx) : val_main_v2 (F := Ideal) x i = BitVec.ofNat 32 (place x (i 0) (i 1)).val := by
  have hi : idx_main_v2 i = ix2 (i 0) ⟨(i 1).val, by have : (i 1).val < 16 := (i 1).isLt; omega⟩ := by
    funext a
    match a with
    | ⟨0, _⟩ => rfl
    | ⟨1, _⟩ => rfl
  rw [val_main_v2_apply, hi]
  unfold val_main_v1
  exact SortRows.sort2_row comparator_f32_i32_d1 less (val_main_v0 (F := Ideal) x) (val_main_call0_v0 (F := Ideal)) (i 0) _

/-- Words below 8192 are non-negative and at most 8191. -/
theorem in_range (p : Fin 8192) : IntOp.cmpi .slt (BitVec.ofNat 32 p.val) 0#32 = 0#1 ∧ IntOp.cmpi .sge (BitVec.ofNat 32 p.val) 0#32 = 1#1
    ∧ IntOp.cmpi .sle (BitVec.ofNat 32 p.val) 8191#32 = 1#1 ∧ min (BitVec.ofNat 32 p.val).toInt.toNat 8191 = p.val := by
  have hp := p.isLt
  have e : (BitVec.ofNat 32 p.val).toInt = (p.val : ℤ) := by
    rw [BitVec.toInt_eq_toNat_of_lt (by rw [BitVec.toNat_ofNat]; omega), BitVec.toNat_ofNat, Nat.mod_eq_of_lt (by omega)]
  have h0 : (0#32).toInt = 0 := rfl
  have h1 : (8191#32).toInt = 8191 := rfl
  refine ⟨?_, ?_, ?_, by rw [e]; omega⟩ <;> simp only [IntOp.cmpi, BitVec.slt, BitVec.sle, e, h0, h1]
  · rw [decide_eq_false (by omega)]; rfl
  · rw [decide_eq_true (by omega)]; rfl
  · rw [decide_eq_true (by omega)]; rfl

/-- So the wrapped index is the index, -/
theorem wrapped_eq (i : S512x16.Idx) : val_main_call1_v4 (F := Ideal) x i = BitVec.ofNat 32 (place x (i 0) (i 1)).val := by
  rw [val_main_call1_v4_apply, val_main_call1_v1_apply, val_main_call1_v0_apply, val_main_call1_c_apply, index_eq,
    (in_range _).1]
  rfl

/-- and the mask of the indices in range is set everywhere. -/
theorem mask_eq (i : S512x16.Idx) : val_main_call1_v12 (F := Ideal) x i = 1#1 := by
  unfold val_main_call1_v12
  rw [Host.reduce_eq_fold, val_main_call1_c_3_apply, SortRows.fold_andi]
  intro k _
  rw [val_main_call1_v11_apply, val_main_call1_v7_apply, val_main_call1_v10_apply, val_main_call1_v6_apply,
    val_main_call1_c_2_apply, val_main_call1_v9_apply, val_main_call1_v8_apply, val_main_call1_c_1_apply,
    val_main_call1_v5_apply, wrapped_eq, (in_range _).2.1, (in_range _).2.2.1]
  rfl

/-- The gather reads, in its own row, the column its index names, clamped into the row. -/
theorem gather_row (idx : IVec S512x16x1 32) (r : Fin 512) (l : Fin 16) :
    Host.gather gather_S512x8192_S512x16x1_S512x16_n_1_0_0_1_2_11 x idx (ix2 r l)
      = x (ix2 r ⟨min (idx (ix3 r l 0)).toInt.toNat 8191, by omega⟩) := by
  unfold Host.gather
  refine congrArg x (funext fun a => Fin.ext ?_)
  generalize hd : gather_S512x8192_S512x16x1_S512x16_n_1_0_0_1_2_11 = d
  have hz : ∀ a, d.offCoord (ix2 r l) a = 0 := fun a => d.offCoord_eq_zero _ _ (by
    subst hd; rw [GatherDims.mem_sKept]
    fin_cases a
    · exact fun h => h.2 (List.mem_singleton.mpr rfl)
    · exact fun h => h.1 (List.mem_singleton.mpr rfl))
  show d.start (ix2 r l) idx a + d.batchCoord (ix2 r l) a + d.offCoord (ix2 r l) a = _
  rw [hz, Nat.add_zero]
  match a with
  | ⟨0, _⟩ =>
    rw [d.start_batching _ _ _ (by subst hd; exact List.mem_singleton.mpr rfl), Nat.zero_add]
    unfold GatherDims.batchCoord
    rw [dif_pos (by subst hd; exact List.mem_singleton.mpr rfl)]
    subst hd; rfl
  | ⟨1, _⟩ =>
    rw [d.batchCoord_eq_zero _ _ (by subst hd; exact fun h => absurd (congrArg Fin.val (List.mem_singleton.mp h)) Nat.one_ne_zero), Nat.add_zero]
    have hm : (⟨1, by decide⟩ : Fin S512x8192.rank) ∈ d.startIndexMap := by subst hd; exact List.mem_singleton.mpr rfl
    have hs : d.siIdx (ix2 r l) ⟨d.startIndexMap.idxOf ⟨1, by decide⟩, List.idxOf_lt_length_iff.2 hm⟩ = ix3 r l 0 := by
      subst hd
      funext b
      refine Fin.ext ?_
      match b with
      | ⟨0, _⟩ => rfl
      | ⟨1, _⟩ => rfl
      | ⟨2, _⟩ => rfl
    unfold GatherDims.start
    rw [dif_pos hm, hs]
    subst hd; rfl

/-- An entry of the result is the entry of the argument at that place. -/
theorem result_eq (r : Fin 512) (l : Fin 16) : val_main_v3 (F := Ideal) x (ix2 r l) = x (ix2 r (place x r l)) := by
  have hk : idx_main_call1_v5 (ix3 r l 0) = ix2 r l := by
    funext a
    refine Fin.ext ?_
    match a with
    | ⟨0, _⟩ => show ((r.val * 16 + l.val) * 1 + 0) / 16 = r.val; omega
    | ⟨1, _⟩ => show ((r.val * 16 + l.val) * 1 + 0) % 16 = l.val; omega
  have hv : val_main_call1_v5 (F := Ideal) x (ix3 r l 0) = BitVec.ofNat 32 (place x r l).val := by
    have h1 := val_main_call1_v5_apply (F := Ideal) x (ix3 r l 0)
    have h2 := wrapped_eq x (idx_main_call1_v5 (ix3 r l 0))
    rw [hk] at h1 h2
    exact h1.trans h2
  have hc : ∀ p q : Fin 8192, p.val = q.val → x (ix2 r p) = x (ix2 r q) := fun p q e => by rw [Fin.ext e]
  rw [val_main_v3_apply, mask_eq]
  refine Eq.trans (?_ : _ = val_main_call1_v13 (F := Ideal) x (ix2 r l)) ?_
  · rfl
  unfold val_main_call1_v13
  rw [gather_row]
  refine hc _ _ ?_
  dsimp only
  rw [hv]
  exact (in_range (place x r l)).2.2.2

/-- Row `r` of the result lists the sixteen largest entries of row `r` of the argument. -/
theorem result_row (r : Fin 512) :
    List.ofFn (fun l : Fin 16 => (val_main_v3 (F := Ideal) x (ix2 r l) : EReal)) = topList 16 (List.ofFn fun j : Fin 8192 => (x (ix2 r j) : EReal)) := by
  rw [TopRows.topList_of_desc (SortRows.desc_neg fun j : Fin 8192 => (x (ix2 r j) : EReal)) 16 (by omega)]
  exact congrArg List.ofFn (funext fun l => result_eq x r l)

end Cert.ReferenceIdeal.Rows

end
-- ==== Proof.Whole.lean ====
/- The kernel's result against the reference's: a device and its peer hold the two halves of every row, the sixteen
   largest of a row are the sixteen largest of the halves' sixteen largest, and both programs list them. -/
module

public import proofs.«01_k».proof.Proof.KernelIdealRead
public import proofs.«01_k».proof.Proof.Distinct
public import proofs.«01_k».proof.Proof.ReferenceRows
public import proofs.«01_k».proof.Proof.Gen.Pre_top16_distinct_KernelIdeal
public import Idealize.ShloMosaic.Lib.Layout

@[expose] public section

noncomputable section

namespace Cert.Whole

open Cert.KernelIdeal Cert.KernelIdeal.Exchange Cert.KernelIdeal.Rows Idealize.ShloMosaic
open Idealize.ShloMosaic.SortNet (topList)

/-- The column of the whole row that column `j` of device `c`'s half is. -/
def column (c : Dev nD) (j : Fin 4096) : Fin 8192 := ⟨((c.val / 4) % 2) * 4096 + j.val, by omega⟩

/-- The number of the block a device holds is its coordinate on the second axis of the mesh. -/
theorem block_number (c : Dev nD) : Layout.meshLin [2, 2, 4] c.val [1] = (c.val / 4) % 2 := by revert c; decide

/-- A device's entries are the whole array's at those columns. -/
theorem block_row (v : FVec Ideal ⟨2, ![512, 8192]⟩ .f32) (c : Dev nD) (r : Fin 512) (j : Fin 4096) :
    (Layout.blockN ⟨2, ![512, 4096]⟩ ⟨2, ![512, 8192]⟩ (Layout.meshBlock [2, 2, 4] ![[], [1]] c) v) (ix2 r j) = v (ix2 r (column c j)) := by
  rw [Layout.blockN_apply]
  refine congrArg v (funext fun a => Fin.ext ?_)
  rw [Layout.TilesN.idx_val]
  match a with
  | ⟨0, _⟩ => show 0 * 512 + r.val = r.val; omega
  | ⟨1, _⟩ => show Layout.meshLin [2, 2, 4] c.val [1] * 4096 + j.val = ((c.val / 4) % 2) * 4096 + j.val; rw [block_number]

/-- A device's columns and its peer's are all the columns, each once. -/
theorem halves (c : Dev nD) : Function.Bijective (Sum.elim (column c) (column (peer c))) := by
  have hp : ((peer c).val / 4) % 2 = 1 - (c.val / 4) % 2 := by revert c; decide
  have h2 : (c.val / 4) % 2 = 0 ∨ (c.val / 4) % 2 = 1 := by omega
  constructor
  · rintro (a | a) (b | b) h <;> have h := congrArg Fin.val h <;> simp only [Sum.elim_inl, Sum.elim_inr, column, hp] at h
    · exact congrArg Sum.inl (Fin.ext (by omega))
    · omega
    · omega
    · exact congrArg Sum.inr (Fin.ext (by omega))
  · intro q
    have hq : q.val / 4096 = (c.val / 4) % 2 ∨ q.val / 4096 = 1 - (c.val / 4) % 2 := by omega
    rcases hq with e | e
    · exact ⟨.inl ⟨q.val % 4096, by omega⟩, Fin.ext (by show ((c.val / 4) % 2) * 4096 + q.val % 4096 = q.val; omega)⟩
    · exact ⟨.inr ⟨q.val % 4096, by omega⟩, Fin.ext (by
        show (((peer c).val / 4) % 2) * 4096 + q.val % 4096 = q.val
        rw [hp, ← e]; omega)⟩

/-- The candidates of a device where the precondition holds are the sixteen largest entries of its half of each row. -/
theorem best_of_pre [Cert.Pre_top16_distinct_KernelIdeal.Facts] (x : FVec Ideal S512x4096 .f32)
    (h : Cert.Pre_top16_distinct_KernelIdeal.fn (F := Ideal) x = fun _ => 1#1) (r : Fin 512) :
    List.ofFn (fun l : Fin 16 => (best (F := Ideal) x (ix3 0 r l) : EReal)) = topList 16 (List.ofFn (row x r)) :=
  best_top x r _ (SortRows.desc_rev (row x r)) (Distinct.gap x h r)

/-- The merge of a device's candidates with its peer's is the reference's result. -/
theorem merged_eq_reference [Cert.Pre_top16_distinct_KernelIdeal.Facts] (v : FVec Ideal ⟨2, ![512, 8192]⟩ .f32) (x : Dev nD → FVec Ideal S512x4096 .f32)
    (hpre : ∀ c, Cert.Pre_top16_distinct_KernelIdeal.fn (F := Ideal) (x c) = fun _ => 1#1)
    (hx : ∀ c, x c = Layout.blockN ⟨2, ![512, 4096]⟩ ⟨2, ![512, 8192]⟩ (Layout.meshBlock [2, 2, 4] ![[], [1]] c) v) (c : Dev nD) :
    merged (F := Ideal) (best (F := Ideal) (x c)) (best (F := Ideal) (x (peer c))) = Cert.ReferenceIdeal.Read.val_main_v3 (F := Ideal) v := by
  funext i
  have hi : i = ix2 (i 0) (i 1) := by
    funext a
    match a with
    | ⟨0, _⟩ => rfl
    | ⟨1, _⟩ => rfl
  rw [hi]
  have hrow : ∀ c j, row (x c) (i 0) j = v (ix2 (i 0) (column c j)) := fun c j => by
    unfold row
    rw [hx]
    exact block_row v c (i 0) j
  have hlist := merged_row (best (F := Ideal) (x c)) (best (F := Ideal) (x (peer c))) (i 0)
  rw [best_of_pre (x c) (hpre c) (i 0), best_of_pre (x (peer c)) (hpre (peer c)) (i 0),
    TopRows.topList_halves 16 (fun j : Fin 8192 => (v (ix2 (i 0) j) : EReal)) (row (x c) (i 0)) (row (x (peer c)) (i 0))
      (Equiv.ofBijective _ (halves c)) (hrow c) (hrow (peer c)), ← Cert.ReferenceIdeal.Rows.result_row v (i 0)] at hlist
  exact congrFun (List.ofFn_injective hlist) (i 1)

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_top16_distinct_KernelIdeal
public import proofs.«01_k».proof.Proof.Gen.Pre_top16_distinct_ReferenceIdeal
public import proofs.«01_k».proof.Proof.Gen.ReferenceIdeal.Run
public import proofs.«01_k».proof.Proof.Gen.ReferenceIdeal.Read
public import proofs.«01_k».proof.Proof.KernelLaunch
public import proofs.«01_k».proof.Proof.KernelIdealLaunch
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The kernel runs, leaves its argument as it was and every counter at zero. -/
theorem frame_kernel : Cert.quiescent_Kernel := fun m ρ _ =>
  (θ_run Cert.Kernel.defs _ _).mono (fun _ h => ⟨fun c => (h.1 c).1, h.2⟩) (Cert.Kernel.Exchange.run_main m ρ)

/-- So does the kernel over the extended reals, -/
theorem frame_ideal : Cert.quiescent_KernelIdeal := fun m ρ _ =>
  (θ_run Cert.KernelIdeal.defs _ _).mono (fun _ h => ⟨fun c => (h.1 c).1, h.2⟩) (Cert.KernelIdeal.Exchange.run_main m ρ)

/-- and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the sixteen largest entries of every row of a device's columns are distinct, every device's result is the
    reference's. -/
theorem algebraic : Cert.algebraic_KernelIdeal_ReferenceIdeal_pre_top16_distinct_KernelIdeal := by
  intro m g m' g' hpre hm
  refine ⟨Cert.ReferenceIdeal.Read.val_main_v3 (F := Ideal) (m' (((0 : Dev Cert.ReferenceIdeal.nD).tc :
    Thread Cert.ReferenceIdeal.nD Cert.ReferenceIdeal.τ).loc Cert.ReferenceIdeal.main_arg0)), ?_, ?_⟩
  · exact (θ_run Cert.KernelIdeal.defs _ _).mono (fun r h c => ⟨(h.1 c).2.trans (Cert.Whole.merged_eq_reference _
      (fun d => m ((d.tc : Thread Cert.KernelIdeal.nD Cert.KernelIdeal.τ).loc Cert.KernelIdeal.main_arg0)) hpre hm c), (h.1 c).1⟩)
      (Cert.KernelIdeal.Exchange.run_main m g)
  · exact (θ_run Cert.ReferenceIdeal.defs _ _).mono (fun r h => ⟨(h 0).1.trans (Cert.ReferenceIdeal.Read.val_main_v3_eq _), (h 0).2⟩)
      (Cert.ReferenceIdeal.Value.run (F := Ideal) m' g')

/-- All the claims. -/
theorem claim : Cert.Claim := ⟨Cert.Kernel.Gen.facts, Cert.KernelIdeal.Gen.facts, Cert.ReferenceIdeal.Gen.facts,
  Cert.Pre_top16_distinct_KernelIdeal.Gen.facts, Cert.Pre_top16_distinct_ReferenceIdeal.Gen.facts,
  frame_kernel, frame_ideal, fun m ρ _ => frame_ideal m ρ trivial, frame_reference, fun m ρ _ => frame_reference m ρ trivial,
  trivial, algebraic⟩

end Cert.Proof

end
